-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_groups [hPre_sorted_groups : Cert.Pre_sorted_groups.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_groups [hPre_sorted_groups : Cert.Pre_sorted_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_groups [hKernelIdeal : Cert.KernelIdeal.Facts] [hPre_sorted_groups : Cert.Pre_sorted_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_groups [hReferenceIdeal : Cert.ReferenceIdeal.Facts] [hPre_sorted_groups : Cert.Pre_sorted_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.sign_bit.Statement Cert.KernelIdeal.S16x16 .f32

def algebraic_KernelIdeal_ReferenceIdeal_pre_sorted_groups [hKernelIdeal : Cert.KernelIdeal.Facts] [hReferenceIdeal : Cert.ReferenceIdeal.Facts] [hPre_sorted_groups : Cert.Pre_sorted_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_groups : Cert.Pre_sorted_groups.Facts),
    quiescent_Kernel (hKernel := hKernel)
    ∧ quiescent_KernelIdeal (hKernelIdeal := hKernelIdeal)
    ∧ quiescent_KernelIdeal_pre_sorted_groups (hKernelIdeal := hKernelIdeal) (hPre_sorted_groups := hPre_sorted_groups)
    ∧ quiescent_ReferenceIdeal (hReferenceIdeal := hReferenceIdeal)
    ∧ quiescent_ReferenceIdeal_pre_sorted_groups (hReferenceIdeal := hReferenceIdeal) (hPre_sorted_groups := hPre_sorted_groups)
    ∧ preserves_Kernel_KernelIdeal
    ∧ algebraic_KernelIdeal_ReferenceIdeal_pre_sorted_groups (hKernelIdeal := hKernelIdeal) (hReferenceIdeal := hReferenceIdeal) (hPre_sorted_groups := hPre_sorted_groups)
-- ==== Pre_sorted_groups.lean ====
abbrev S32768x4 : Shape := ⟨2, ![32768, 4]⟩
abbrev S32768 : Shape := ⟨1, ![32768]⟩
abbrev S4x64 : Shape := ⟨2, ![4, 64]⟩
abbrev S64 : Shape := ⟨1, ![64]⟩
abbrev S64x16 : Shape := ⟨2, ![64, 16]⟩
abbrev S16 : Shape := ⟨1, ![16]⟩
abbrev S_ : Shape := ⟨0, ![]⟩
abbrev S32767 : Shape := ⟨1, ![32767]⟩
abbrev S28672 : Shape := ⟨1, ![28672]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_0 : S32768.Slices ![0] S32767
  slices_S32768_S32767_1 : S32768.Slices ![1] S32767
  reducesTo_S32767_S_d0 : S32767.ReducesTo [0] S_
  slices_S32768_S28672_0 : S32768.Slices ![0] S28672
  slices_S32768_S28672_4096 : S32768.Slices ![4096] S28672
  reducesTo_S28672_S_d0 : S28672.ReducesTo [0] S_

variable [Facts]

def fn {F : FTy → Type} [FloatOps F] (main_arg0 : FVec F S32768x4 .f32) (main_arg1 : IVec S32768 32) (main_arg2 : FVec F S4x64 .f32) (main_arg3 : FVec F S64 .f32) (main_arg4 : FVec F S64x16 .f32) (main_arg5 : FVec F S16 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 16#32
  let main_v3 : IVec S32768 32 := broadcastInDim S32768 ![] bcast_S_S32768 main_c_1
  let main_v4 : IVec S32768 1 := cmpi .slt main_arg1 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : IVec S32767 32 := (extractStridedSlice S32767 ![0] · slices_S32768_S32767_0) main_arg1
  let main_v8 : IVec S32767 32 := (extractStridedSlice S32767 ![1] · slices_S32768_S32767_1) main_arg1
  let main_v9 : IVec S32767 1 := cmpi .sle main_v7 main_v8
  let main_c_3 : IVec S_ 1 := constantI S_ 1 1#1
  let main_v10 : IVec S_ 1 := (fun x v => Host.reduce IntOp.andi x v reducesTo_S32767_S_d0 h_S_) main_v9 main_c_3
  let main_v11 : IVec S_ 1 := andi main_v6 main_v10
  let main_v12 : IVec S28672 32 := (extractStridedSlice S28672 ![0] · slices_S32768_S28672_0) main_arg1
  let main_v13 : IVec S28672 32 := (extractStridedSlice S28672 ![4096] · slices_S32768_S28672_4096) main_arg1
  let main_v14 : IVec S28672 1 := cmpi .slt main_v12 main_v13
  let main_c_4 : IVec S_ 1 := constantI S_ 1 1#1
  let main_v15 : IVec S_ 1 := (fun x v => Host.reduce IntOp.andi x v reducesTo_S28672_S_d0 h_S_) main_v14 main_c_4
  let main_v16 : IVec S_ 1 := andi main_v11 main_v15
  main_v16
-- ==== Kernel.lean ====
abbrev S32768x4 : Shape := ⟨2, ![32768, 4]⟩
abbrev S32768 : Shape := ⟨1, ![32768]⟩
abbrev S4x64 : Shape := ⟨2, ![4, 64]⟩
abbrev S64 : Shape := ⟨1, ![64]⟩
abbrev S64x16 : Shape := ⟨2, ![64, 16]⟩
abbrev S16 : Shape := ⟨1, ![16]⟩
abbrev S256x128 : Shape := ⟨2, ![256, 128]⟩
abbrev S4x32768 : Shape := ⟨2, ![4, 32768]⟩
abbrev S64x4 : Shape := ⟨2, ![64, 4]⟩
abbrev S64x1 : Shape := ⟨2, ![64, 1]⟩
abbrev S16x64 : Shape := ⟨2, ![16, 64]⟩
abbrev S16x1 : Shape := ⟨2, ![16, 1]⟩
abbrev S16x16x16 : Shape := ⟨3, ![16, 16, 16]⟩
abbrev S16x16x4096 : Shape := ⟨3, ![16, 16, 4096]⟩
abbrev S8x16x16 : Shape := ⟨3, ![8, 16, 16]⟩
abbrev S8x16x4096 : Shape := ⟨3, ![8, 16, 4096]⟩
abbrev S16x36992 : Shape := ⟨2, ![16, 36992]⟩
abbrev S2x16 : Shape := ⟨2, ![2, 16]⟩
abbrev S1x16 : Shape := ⟨2, ![1, 16]⟩
abbrev S1x256x128 : Shape := ⟨3, ![1, 256, 128]⟩
abbrev S1 : Shape := ⟨1, ![1]⟩
abbrev S1x1x1 : Shape := ⟨3, ![1, 1, 1]⟩
abbrev S1x1 : Shape := ⟨2, ![1, 1]⟩
abbrev S16x4224 : Shape := ⟨2, ![16, 4224]⟩
abbrev S64x32768 : Shape := ⟨2, ![64, 32768]⟩
abbrev S16x32768 : Shape := ⟨2, ![16, 32768]⟩
abbrev S1x4224 : Shape := ⟨2, ![1, 4224]⟩
abbrev S16x4096 : Shape := ⟨2, ![16, 4096]⟩
abbrev S1x16x4096 : Shape := ⟨3, ![1, 16, 4096]⟩
abbrev S16x16 : Shape := ⟨2, ![16, 16]⟩
abbrev S1x16x16 : Shape := ⟨3, ![1, 16, 16]⟩
abbrev S16x256 : Shape := ⟨2, ![16, 256]⟩
abbrev S16x4096x16 : Shape := ⟨3, ![16, 4096, 16]⟩

abbrev nBuf : Space → Nat
  | .hbm => 16
  | .vmem => 12
  | .smem => 2
  | _ => 0

abbrev bufTy : (tb : Table) → Fin (tcTables nBuf tb) → BufTy
  | .hbm, ⟨0, _⟩ => ⟨S32768x4, .f32⟩
  | .hbm, ⟨1, _⟩ => ⟨S32768, .i32⟩
  | .hbm, ⟨2, _⟩ => ⟨S4x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S256x128, .i32⟩
  | .hbm, ⟨7, _⟩ => ⟨S4x32768, .f32⟩
  | .hbm, ⟨8, _⟩ => ⟨S64x4, .f32⟩
  | .hbm, ⟨9, _⟩ => ⟨S64x1, .f32⟩
  | .hbm, ⟨10, _⟩ => ⟨S16x64, .f32⟩
  | .hbm, ⟨11, _⟩ => ⟨S16x1, .f32⟩
  | .hbm, ⟨12, _⟩ => ⟨S16x16x16, .f32⟩
  | .hbm, ⟨13, _⟩ => ⟨S16x16x4096, .f32⟩
  | .hbm, ⟨14, _⟩ => ⟨S16x256, .f32⟩
  | .hbm, ⟨15, _⟩ => ⟨S16x4096x16, .f32⟩
  | .local _ .vmem, ⟨0, _⟩ => ⟨S256x128, .i32⟩
  | .local _ .vmem, ⟨1, _⟩ => ⟨S4x32768, .f32⟩
  | .local _ .vmem, ⟨2, _⟩ => ⟨S4x32768, .f32⟩
  | .local _ .vmem, ⟨3, _⟩ => ⟨S64x4, .f32⟩
  | .local _ .vmem, ⟨4, _⟩ => ⟨S64x1, .f32⟩
  | .local _ .vmem, ⟨5, _⟩ => ⟨S16x64, .f32⟩
  | .local _ .vmem, ⟨6, _⟩ => ⟨S16x1, .f32⟩
  | .local _ .vmem, ⟨7, _⟩ => ⟨S8x16x16, .f32⟩
  | .local _ .vmem, ⟨8, _⟩ => ⟨S8x16x16, .f32⟩
  | .local _ .vmem, ⟨9, _⟩ => ⟨S8x16x4096, .f32⟩
  | .local _ .vmem, ⟨10, _⟩ => ⟨S8x16x4096, .f32⟩
  | .local _ .vmem, ⟨11, _⟩ => ⟨S16x36992, .f32⟩
  | .local _ .smem, ⟨0, _⟩ => ⟨S2x16, .i32⟩
  | .local _ .smem, ⟨1, _⟩ => ⟨S1x16, .i32⟩
  | _, _ => ⟨S32768x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [BitOps F]

abbrev grid0 : Pipeline.Grid := ⟨1, ![3], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_15 : Index := 0#32
  let arg0 : BitVec 32 := BitVec.ofNat 32 (i 0).val
  let c32768_i32 : BitVec 32 := 32768#32
  let v27 : BitVec 32 := Scalar.muli arg0 c32768_i32
  let v28 : Index := Scalar.indexCast v27
  ![0, v28.toNat]
def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let c1 : Index := 1#32
  let arg0 : BitVec 32 := BitVec.ofNat 32 (i 0).val
  let c1_i32_4 : BitVec 32 := 1#32
  let v9 : BitVec 32 := Scalar.subi arg0 c1_i32_4
  let c8_i32 : BitVec 32 := 8#32
  let v10 : BitVec 32 := Scalar.muli v9 c8_i32
  let c0_i32_5 : BitVec 32 := 0#32
  let v11 : BitVec 32 := Scalar.addi v10 c0_i32_5
  let v12 : Index := Scalar.indexCast v11
  ![1, v12.toNat]
def k0_off3 (i : grid0.Coords) : Fin 2 → Nat :=
  let c0 : Index := 0#32
  let arg0 : BitVec 32 := BitVec.ofNat 32 (i 0).val
  let c1_i32_4 : BitVec 32 := 1#32
  let v9 : BitVec 32 := Scalar.subi arg0 c1_i32_4
  let c8_i32 : BitVec 32 := 8#32
  let v10 : BitVec 32 := Scalar.muli v9 c8_i32
  let c0_i32_5 : BitVec 32 := 0#32
  let v11 : BitVec 32 := Scalar.addi v10 c0_i32_5
  let v14 : Index := Scalar.indexCast v11
  ![0, v14.toNat]
def k0_off4 (i : grid0.Coords) : Fin 2 → Nat :=
  let c0_6 : Index := 0#32
  let arg0 : BitVec 32 := BitVec.ofNat 32 (i 0).val
  let c1_i32_4 : BitVec 32 := 1#32
  let v9 : BitVec 32 := Scalar.subi arg0 c1_i32_4
  let c8_i32 : BitVec 32 := 8#32
  let v10 : BitVec 32 := Scalar.muli v9 c8_i32
  let c0_i32_5 : BitVec 32 := 0#32
  let v11 : BitVec 32 := Scalar.addi v10 c0_i32_5
  let v16 : Index := Scalar.indexCast v11
  ![0, v16.toNat]
def k0_off5 (v17 : BitVec 32) : Fin 2 → Nat :=
  let c0_7 : Index := 0#32
  let c128_i32 : BitVec 32 := 128#32
  let v18 : BitVec 32 := Scalar.muli v17 c128_i32
  let v19 : Index := Scalar.indexCast v18
  ![0, v19.toNat]

def k0_chk1 (i : grid0.Coords) (v17 : BitVec 32) : Prop :=
  (∀ (k0_h3 : k0_cond3 i = 1#1), ∀ a, (k0_off5 v17) a + S16x4224.size a ≤ S16x36992.size a)
theorem k0_off5_inb : ∀ (i : grid0.Coords) (v17 : BitVec 32) (k0_hw1 : k0_chk1 i v17), ∀ (k0_h3 : k0_cond3 i = 1#1), ∀ a, (k0_off5 v17) a + S16x4224.size a ≤ S16x36992.size a := fun i v17 k0_hw1 k0_h3 => k0_hw1 k0_h3

def k0_off6 (i : grid0.Coords) : Fin 2 → Nat :=
  let c1_25 : Index := 1#32
  let arg0 : BitVec 32 := BitVec.ofNat 32 (i 0).val
  let c1_i32_22 : BitVec 32 := 1#32
  let v80 : BitVec 32 := Scalar.subi arg0 c1_i32_22
  let c8_i32_23 : BitVec 32 := 8#32
  let v81 : BitVec 32 := Scalar.muli v80 c8_i32_23
  let c1_i32_24 : BitVec 32 := 1#32
  let v82 : BitVec 32 := Scalar.addi v81 c1_i32_24
  let v83 : Index := Scalar.indexCast v82
  ![1, v83.toNat]
def k0_off7 (i : grid0.Coords) : Fin 2 → Nat :=
  let c0_26 : Index := 0#32
  let arg0 : BitVec 32 := BitVec.ofNat 32 (i 0).val
  let c1_i32_22 : BitVec 32 := 1#32
  let v80 : BitVec 32 := Scalar.subi arg0 c1_i32_22
  let c8_i32_23 : BitVec 32 := 8#32
  let v81 : BitVec 32 := Scalar.muli v80 c8_i32_23
  let c1_i32_24 : BitVec 32 := 1#32
  let v82 : BitVec 32 := Scalar.addi v81 c1_i32_24
  let v85 : Index := Scalar.indexCast v82
  ![0, v85.toNat]
def k0_off8 (i : grid0.Coords) : Fin 2 → Nat :=
  let c0_27 : Index := 0#32
  let arg0 : BitVec 32 := BitVec.ofNat 32 (i 0).val
  let c1_i32_22 : BitVec 32 := 1#32
  let v80 : BitVec 32 := Scalar.subi arg0 c1_i32_22
  let c8_i32_23 : BitVec 32 := 8#32
  let v81 : BitVec 32 := Scalar.muli v80 c8_i32_23
  let c1_i32_24 : BitVec 32 := 1#32
  let v82 : BitVec 32 := Scalar.addi v81 c1_i32_24
  let v87 : Index := Scalar.indexCast v82
  ![0, v87.toNat]
def k0_off9 (v88 : BitVec 32) : Fin 2 → Nat :=
  let c0_29 : Index := 0#32
  let c128_i32_28 : BitVec 32 := 128#32
  let v89 : BitVec 32 := Scalar.muli v88 c128_i32_28
  let v90 : Index := Scalar.indexCast v89
  ![0, v90.toNat]

def k0_chk2 (i : grid0.Coords) (v88 : BitVec 32) : Prop :=
  (∀ (k0_h3 : k0_cond3 i = 1#1), ∀ a, (k0_off9 v88) a + S16x4224.size a ≤ S16x36992.size a)
theorem k0_off9_inb : ∀ (i : grid0.Coords) (v88 : BitVec 32) (k0_hw2 : k0_chk2 i v88), ∀ (k0_h3 : k0_cond3 i = 1#1), ∀ a, (k0_off9 v88) a + S16x4224.size a ≤ S16x36992.size a := fun i v88 k0_hw2 k0_h3 => k0_hw2 k0_h3

def k0_off10 (i : grid0.Coords) : Fin 2 → Nat :=
  let c1_50 : Index := 1#32
  let arg0 : BitVec 32 := BitVec.ofNat 32 (i 0).val
  let c1_i32_48 : BitVec 32 := 1#32
  let v151 : BitVec 32 := Scalar.subi arg0 c1_i32_48
  let c8_i32_49 : BitVec 32 := 8#32
  let v152 : BitVec 32 := Scalar.muli v151 c8_i32_49
  let c2_i32 : BitVec 32 := 2#32
  let v153 : BitVec 32 := Scalar.addi v152 c2_i32
  let v154 : Index := Scalar.indexCast v153
  ![1, v154.toNat]
def k0_off11 (i : grid0.Coords) : Fin 2 → Nat :=
  let c0_51 : Index := 0#32
  let arg0 : BitVec 32 := BitVec.ofNat 32 (i 0).val
  let c1_i32_48 : BitVec 32 := 1#32
  let v151 : BitVec 32 := Scalar.subi arg0 c1_i32_48
  let c8_i32_49 : BitVec 32 := 8#32
  let v152 : BitVec 32 := Scalar.muli v151 c8_i32_49
  let c2_i32 : BitVec 32 := 2#32
  let v153 : BitVec 32 := Scalar.addi v152 c2_i32
  let v156 : Index := Scalar.indexCast v153
  ![0, v156.toNat]
def k0_off12 (i : grid0.Coords) : Fin 2 → Nat :=
  let c0_52 : Index := 0#32
  let arg0 : BitVec 32 := BitVec.ofNat 32 (i 0).val
  let c1_i32_48 : BitVec 32 := 1#32
  let v151 : BitVec 32 := Scalar.subi arg0 c1_i32_48
  let c8_i32_49 : BitVec 32 := 8#32
  let v152 : BitVec 32 := Scalar.muli v151 c8_i32_49
  let c2_i32 : BitVec 32 := 2#32
  let v153 : BitVec 32 := Scalar.addi v152 c2_i32
  let v158 : Index := Scalar.indexCast v153
  ![0, v158.toNat]
def k0_off13 (v159 : BitVec 32) : Fin 2 → Nat :=
  let c0_54 : Index := 0#32
  let c128_i32_53 : BitVec 32 := 128#32
  let v160 : BitVec 32 := Scalar.muli v159 c128_i32_53
  let v161 : Index := Scalar.indexCast v160
  ![0, v161.toNat]

def k0_chk3 (i : grid0.Coords) (v159 : BitVec 32) : Prop :=
  (∀ (k0_h3 : k0_cond3 i = 1#1), ∀ a, (k0_off13 v159) a + S16x4224.size a ≤ S16x36992.size a)
theorem k0_off13_inb : ∀ (i : grid0.Coords) (v159 : BitVec 32) (k0_hw3 : k0_chk3 i v159), ∀ (k0_h3 : k0_cond3 i = 1#1), ∀ a, (k0_off13 v159) a + S16x4224.size a ≤ S16x36992.size a := fun i v159 k0_hw3 k0_h3 => k0_hw3 k0_h3

def k0_off14 (i : grid0.Coords) : Fin 2 → Nat :=
  let c1_74 : Index := 1#32
  let arg0 : BitVec 32 := BitVec.ofNat 32 (i 0).val
  let c1_i32_72 : BitVec 32 := 1#32
  let v222 : BitVec 32 := Scalar.subi arg0 c1_i32_72
  let c8_i32_73 : BitVec 32 := 8#32
  let v223 : BitVec 32 := Scalar.muli v222 c8_i32_73
  let c3_i32 : BitVec 32 := 3#32
  let v224 : BitVec 32 := Scalar.addi v223 c3_i32
  let v225 : Index := Scalar.indexCast v224
  ![1, v225.toNat]
def k0_off15 (i : grid0.Coords) : Fin 2 → Nat :=
  let c0_75 : Index := 0#32
  let arg0 : BitVec 32 := BitVec.ofNat 32 (i 0).val
  let c1_i32_72 : BitVec 32 := 1#32
  let v222 : BitVec 32 := Scalar.subi arg0 c1_i32_72
  let c8_i32_73 : BitVec 32 := 8#32
  let v223 : BitVec 32 := Scalar.muli v222 c8_i32_73
  let c3_i32 : BitVec 32 := 3#32
  let v224 : BitVec 32 := Scalar.addi v223 c3_i32
  let v227 : Index := Scalar.indexCast v224
  ![0, v227.toNat]
def k0_off16 (i : grid0.Coords) : Fin 2 → Nat :=
  let c0_76 : Index := 0#32
  let arg0 : BitVec 32 := BitVec.ofNat 32 (i 0).val
  let c1_i32_72 : BitVec 32 := 1#32
  let v222 : BitVec 32 := Scalar.subi arg0 c1_i32_72
  let c8_i32_73 : BitVec 32 := 8#32
  let v223 : BitVec 32 := Scalar.muli v222 c8_i32_73
  let c3_i32 : BitVec 32 := 3#32
  let v224 : BitVec 32 := Scalar.addi v223 c3_i32
  let v229 : Index := Scalar.indexCast v224
  ![0, v229.toNat]
def k0_off17 (v230 : BitVec 32) : Fin 2 → Nat :=
  let c0_78 : Index := 0#32
  let c128_i32_77 : BitVec 32 := 128#32
  let v231 : BitVec 32 := Scalar.muli v230 c128_i32_77
  let v232 : Index := Scalar.indexCast v231
  ![0, v232.toNat]

def k0_chk4 (i : grid0.Coords) (v230 : BitVec 32) : Prop :=
  (∀ (k0_h3 : k0_cond3 i = 1#1), ∀ a, (k0_off17 v230) a + S16x4224.size a ≤ S16x36992.size a)
theorem k0_off17_inb : ∀ (i : grid0.Coords) (v230 : BitVec 32) (k0_hw4 : k0_chk4 i v230), ∀ (k0_h3 : k0_cond3 i = 1#1), ∀ a, (k0_off17 v230) a + S16x4224.size a ≤ S16x36992.size a := fun i v230 k0_hw4 k0_h3 => k0_hw4 k0_h3

def k0_off18 (i : grid0.Coords) : Fin 2 → Nat :=
  let c1_98 : Index := 1#32
  let arg0 : BitVec 32 := BitVec.ofNat 32 (i 0).val
  let c1_i32_96 : BitVec 32 := 1#32
  let v293 : BitVec 32 := Scalar.subi arg0 c1_i32_96
  let c8_i32_97 : BitVec 32 := 8#32
  let v294 : BitVec 32 := Scalar.muli v293 c8_i32_97
  let c4_i32 : BitVec 32 := 4#32
  let v295 : BitVec 32 := Scalar.addi v294 c4_i32
  let v296 : Index := Scalar.indexCast v295
  ![1, v296.toNat]
def k0_off19 (i : grid0.Coords) : Fin 2 → Nat :=
  let c0_99 : Index := 0#32
  let arg0 : BitVec 32 := BitVec.ofNat 32 (i 0).val
  let c1_i32_96 : BitVec 32 := 1#32
  let v293 : BitVec 32 := Scalar.subi arg0 c1_i32_96
  let c8_i32_97 : BitVec 32 := 8#32
  let v294 : BitVec 32 := Scalar.muli v293 c8_i32_97
  let c4_i32 : BitVec 32 := 4#32
  let v295 : BitVec 32 := Scalar.addi v294 c4_i32
  let v298 : Index := Scalar.indexCast v295
  ![0, v298.toNat]
def k0_off20 (i : grid0.Coords) : Fin 2 → Nat :=
  let c0_100 : Index := 0#32
  let arg0 : BitVec 32 := BitVec.ofNat 32 (i 0).val
  let c1_i32_96 : BitVec 32 := 1#32
  let v293 : BitVec 32 := Scalar.subi arg0 c1_i32_96
  let c8_i32_97 : BitVec 32 := 8#32
  let v294 : BitVec 32 := Scalar.muli v293 c8_i32_97
  let c4_i32 : BitVec 32 := 4#32
  let v295 : BitVec 32 := Scalar.addi v294 c4_i32
  let v300 : Index := Scalar.indexCast v295
  ![0, v300.toNat]
def k0_off21 (v301 : BitVec 32) : Fin 2 → Nat :=
  let c0_102 : Index := 0#32
  let c128_i32_101 : BitVec 32 := 128#32
  let v302 : BitVec 32 := Scalar.muli v301 c128_i32_101
  let v303 : Index := Scalar.indexCast v302
  ![0, v303.toNat]

def k0_chk5 (i : grid0.Coords) (v301 : BitVec 32) : Prop :=
  (∀ (k0_h3 : k0_cond3 i = 1#1), ∀ a, (k0_off21 v301) a + S16x4224.size a ≤ S16x36992.size a)
theorem k0_off21_inb : ∀ (i : grid0.Coords) (v301 : BitVec 32) (k0_hw5 : k0_chk5 i v301), ∀ (k0_h3 : k0_cond3 i = 1#1), ∀ a, (k0_off21 v301) a + S16x4224.size a ≤ S16x36992.size a := fun i v301 k0_hw5 k0_h3 => k0_hw5 k0_h3

def k0_off22 (i : grid0.Coords) : Fin 2 → Nat :=
  let c1_122 : Index := 1#32
  let arg0 : BitVec 32 := BitVec.ofNat 32 (i 0).val
  let c1_i32_120 : BitVec 32 := 1#32
  let v364 : BitVec 32 := Scalar.subi arg0 c1_i32_120
  let c8_i32_121 : BitVec 32 := 8#32
  let v365 : BitVec 32 := Scalar.muli v364 c8_i32_121
  let c5_i32 : BitVec 32 := 5#32
  let v366 : BitVec 32 := Scalar.addi v365 c5_i32
  let v367 : Index := Scalar.indexCast v366
  ![1, v367.toNat]
def k0_off23 (i : grid0.Coords) : Fin 2 → Nat :=
  let c0_123 : Index := 0#32
  let arg0 : BitVec 32 := BitVec.ofNat 32 (i 0).val
  let c1_i32_120 : BitVec 32 := 1#32
  let v364 : BitVec 32 := Scalar.subi arg0 c1_i32_120
  let c8_i32_121 : BitVec 32 := 8#32
  let v365 : BitVec 32 := Scalar.muli v364 c8_i32_121
  let c5_i32 : BitVec 32 := 5#32
  let v366 : BitVec 32 := Scalar.addi v365 c5_i32
  let v369 : Index := Scalar.indexCast v366
  ![0, v369.toNat]
def k0_off24 (i : grid0.Coords) : Fin 2 → Nat :=
  let c0_124 : Index := 0#32
  let arg0 : BitVec 32 := BitVec.ofNat 32 (i 0).val
  let c1_i32_120 : BitVec 32 := 1#32
  let v364 : BitVec 32 := Scalar.subi arg0 c1_i32_120
  let c8_i32_121 : BitVec 32 := 8#32
  let v365 : BitVec 32 := Scalar.muli v364 c8_i32_121
  let c5_i32 : BitVec 32 := 5#32
  let v366 : BitVec 32 := Scalar.addi v365 c5_i32
  let v371 : Index := Scalar.indexCast v366
  ![0, v371.toNat]
def k0_off25 (v372 : BitVec 32) : Fin 2 → Nat :=
  let c0_126 : Index := 0#32
  let c128_i32_125 : BitVec 32 := 128#32
  let v373 : BitVec 32 := Scalar.muli v372 c128_i32_125
  let v374 : Index := Scalar.indexCast v373
  ![0, v374.toNat]

def k0_chk6 (i : grid0.Coords) (v372 : BitVec 32) : Prop :=
  (∀ (k0_h3 : k0_cond3 i = 1#1), ∀ a, (k0_off25 v372) a + S16x4224.size a ≤ S16x36992.size a)
theorem k0_off25_inb : ∀ (i : grid0.Coords) (v372 : BitVec 32) (k0_hw6 : k0_chk6 i v372), ∀ (k0_h3 : k0_cond3 i = 1#1), ∀ a, (k0_off25 v372) a + S16x4224.size a ≤ S16x36992.size a := fun i v372 k0_hw6 k0_h3 => k0_hw6 k0_h3

def k0_off26 (i : grid0.Coords) : Fin 2 → Nat :=
  let c1_146 : Index := 1#32
  let arg0 : BitVec 32 := BitVec.ofNat 32 (i 0).val
  let c1_i32_144 : BitVec 32 := 1#32
  let v435 : BitVec 32 := Scalar.subi arg0 c1_i32_144
  let c8_i32_145 : BitVec 32 := 8#32
  let v436 : BitVec 32 := Scalar.muli v435 c8_i32_145
  let c6_i32 : BitVec 32 := 6#32
  let v437 : BitVec 32 := Scalar.addi v436 c6_i32
  let v438 : Index := Scalar.indexCast v437
  ![1, v438.toNat]
def k0_off27 (i : grid0.Coords) : Fin 2 → Nat :=
  let c0_147 : Index := 0#32
  let arg0 : BitVec 32 := BitVec.ofNat 32 (i 0).val
  let c1_i32_144 : BitVec 32 := 1#32
  let v435 : BitVec 32 := Scalar.subi arg0 c1_i32_144
  let c8_i32_145 : BitVec 32 := 8#32
  let v436 : BitVec 32 := Scalar.muli v435 c8_i32_145
  let c6_i32 : BitVec 32 := 6#32
  let v437 : BitVec 32 := Scalar.addi v436 c6_i32
  let v440 : Index := Scalar.indexCast v437
  ![0, v440.toNat]
def k0_off28 (i : grid0.Coords) : Fin 2 → Nat :=
  let c0_148 : Index := 0#32
  let arg0 : BitVec 32 := BitVec.ofNat 32 (i 0).val
  let c1_i32_144 : BitVec 32 := 1#32
  let v435 : BitVec 32 := Scalar.subi arg0 c1_i32_144
  let c8_i32_145 : BitVec 32 := 8#32
  let v436 : BitVec 32 := Scalar.muli v435 c8_i32_145
  let c6_i32 : BitVec 32 := 6#32
  let v437 : BitVec 32 := Scalar.addi v436 c6_i32
  let v442 : Index := Scalar.indexCast v437
  ![0, v442.toNat]
def k0_off29 (v443 : BitVec 32) : Fin 2 → Nat :=
  let c0_150 : Index := 0#32
  let c128_i32_149 : BitVec 32 := 128#32
  let v444 : BitVec 32 := Scalar.muli v443 c128_i32_149
  let v445 : Index := Scalar.indexCast v444
  ![0, v445.toNat]

def k0_chk7 (i : grid0.Coords) (v443 : BitVec 32) : Prop :=
  (∀ (k0_h3 : k0_cond3 i = 1#1), ∀ a, (k0_off29 v443) a + S16x4224.size a ≤ S16x36992.size a)
theorem k0_off29_inb : ∀ (i : grid0.Coords) (v443 : BitVec 32) (k0_hw7 : k0_chk7 i v443), ∀ (k0_h3 : k0_cond3 i = 1#1), ∀ a, (k0_off29 v443) a + S16x4224.size a ≤ S16x36992.size a := fun i v443 k0_hw7 k0_h3 => k0_hw7 k0_h3

def k0_off30 (i : grid0.Coords) : Fin 2 → Nat :=
  let c1_170 : Index := 1#32
  let arg0 : BitVec 32 := BitVec.ofNat 32 (i 0).val
  let c1_i32_168 : BitVec 32 := 1#32
  let v506 : BitVec 32 := Scalar.subi arg0 c1_i32_168
  let c8_i32_169 : BitVec 32 := 8#32
  let v507 : BitVec 32 := Scalar.muli v506 c8_i32_169
  let c7_i32 : BitVec 32 := 7#32
  let v508 : BitVec 32 := Scalar.addi v507 c7_i32
  let v509 : Index := Scalar.indexCast v508
  ![1, v509.toNat]
def k0_off31 (i : grid0.Coords) : Fin 2 → Nat :=
  let c0_171 : Index := 0#32
  let arg0 : BitVec 32 := BitVec.ofNat 32 (i 0).val
  let c1_i32_168 : BitVec 32 := 1#32
  let v506 : BitVec 32 := Scalar.subi arg0 c1_i32_168
  let c8_i32_169 : BitVec 32 := 8#32
  let v507 : BitVec 32 := Scalar.muli v506 c8_i32_169
  let c7_i32 : BitVec 32 := 7#32
  let v508 : BitVec 32 := Scalar.addi v507 c7_i32
  let v511 : Index := Scalar.indexCast v508
  ![0, v511.toNat]
def k0_off32 (i : grid0.Coords) : Fin 2 → Nat :=
  let c0_172 : Index := 0#32
  let arg0 : BitVec 32 := BitVec.ofNat 32 (i 0).val
  let c1_i32_168 : BitVec 32 := 1#32
  let v506 : BitVec 32 := Scalar.subi arg0 c1_i32_168
  let c8_i32_169 : BitVec 32 := 8#32
  let v507 : BitVec 32 := Scalar.muli v506 c8_i32_169
  let c7_i32 : BitVec 32 := 7#32
  let v508 : BitVec 32 := Scalar.addi v507 c7_i32
  let v513 : Index := Scalar.indexCast v508
  ![0, v513.toNat]
def k0_off33 (v514 : BitVec 32) : Fin 2 → Nat :=
  let c0_174 : Index := 0#32
  let c128_i32_173 : BitVec 32 := 128#32
  let v515 : BitVec 32 := Scalar.muli v514 c128_i32_173
  let v516 : Index := Scalar.indexCast v515
  ![0, v516.toNat]

def k0_chk8 (i : grid0.Coords) (v514 : BitVec 32) : Prop :=
  (∀ (k0_h3 : k0_cond3 i = 1#1), ∀ a, (k0_off33 v514) a + S16x4224.size a ≤ S16x36992.size a)
theorem k0_off33_inb : ∀ (i : grid0.Coords) (v514 : BitVec 32) (k0_hw8 : k0_chk8 i v514), ∀ (k0_h3 : k0_cond3 i = 1#1), ∀ a, (k0_off33 v514) a + S16x4224.size a ≤ S16x36992.size a := fun i v514 k0_hw8 k0_h3 => k0_hw8 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S256x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S32768x4 : Shape := ⟨2, ![32768, 4]⟩
abbrev S32768 : Shape := ⟨1, ![32768]⟩
abbrev S4x64 : Shape := ⟨2, ![4, 64]⟩
abbrev S64 : Shape := ⟨1, ![64]⟩
abbrev S64x16 : Shape := ⟨2, ![64, 16]⟩
abbrev S16 : Shape := ⟨1, ![16]⟩
abbrev S32768x64 : Shape := ⟨2, ![32768, 64]⟩
abbrev S1x64 : Shape := ⟨2, ![1, 64]⟩
abbrev S_ : Shape := ⟨0, ![]⟩
abbrev S32768x16 : Shape := ⟨2, ![32768, 16]⟩
abbrev S1x16 : Shape := ⟨2, ![1, 16]⟩
abbrev S32768x1 : Shape := ⟨2, ![32768, 1]⟩
abbrev S1 : Shape := ⟨1, ![1]⟩
abbrev S15 : Shape := ⟨1, ![15]⟩
abbrev S16x4096x16 : Shape := ⟨3, ![16, 4096, 16]⟩
abbrev S32768x2 : Shape := ⟨2, ![32768, 2]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S16x16 : Shape := ⟨2, ![16, 16]⟩
abbrev S16x1x16 : Shape := ⟨3, ![16, 1, 16]⟩
abbrev S16x1x1 : Shape := ⟨3, ![16, 1, 1]⟩
abbrev S16x16x16 : Shape := ⟨3, ![16, 16, 16]⟩
abbrev S16x256 : Shape := ⟨2, ![16, 256]⟩

abbrev nBuf : Space → Nat
  | .hbm => 126
  | .vmem => 0
  | .smem => 0
  | _ => 0

abbrev bufTy : (tb : Table) → Fin (tcTables nBuf tb) → BufTy
  | .hbm, ⟨0, _⟩ => ⟨S32768x4, .f32⟩
  | .hbm, ⟨1, _⟩ => ⟨S32768, .i32⟩
  | .hbm, ⟨2, _⟩ => ⟨S4x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S32768x64, .f32⟩
  | .hbm, ⟨7, _⟩ => ⟨S1x64, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S32768x16, .f32⟩
  | .hbm, ⟨14, _⟩ => ⟨S1x16, .f32⟩
  | .hbm, ⟨15, _⟩ => ⟨S32768x16, .f32⟩
  | .hbm, ⟨16, _⟩ => ⟨S32768x16, .f32⟩
  | .hbm, ⟨17, _⟩ => ⟨S_, .i32⟩
  | .hbm, ⟨18, _⟩ => ⟨S16, .i32⟩
  | .hbm, ⟨19, _⟩ => ⟨S_, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S_, .i32⟩
  | .hbm, ⟨32, _⟩ => ⟨S32768, .i32⟩
  | .hbm, ⟨33, _⟩ => ⟨S16, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S16, .i32⟩
  | .hbm, ⟨39, _⟩ => ⟨S15, .i32⟩
  | .hbm, ⟨40, _⟩ => ⟨S16, .i32⟩
  | .hbm, ⟨41, _⟩ => ⟨S32768, .i32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768, .i32⟩
  | .hbm, ⟨51, _⟩ => ⟨S32768, .i32⟩
  | .hbm, ⟨52, _⟩ => ⟨S_, .f32⟩
  | .hbm, ⟨53, _⟩ => ⟨S16x4096x16, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S_, .i32⟩
  | .hbm, ⟨62, _⟩ => ⟨S32768, .i32⟩
  | .hbm, ⟨63, _⟩ => ⟨S32768, .i1⟩
  | .hbm, ⟨64, _⟩ => ⟨S_, .i32⟩
  | .hbm, ⟨65, _⟩ => ⟨S32768, .i32⟩
  | .hbm, ⟨66, _⟩ => ⟨S32768, .i32⟩
  | .hbm, ⟨67, _⟩ => ⟨S32768, .i32⟩
  | .hbm, ⟨68, _⟩ => ⟨S32768x1, .i32⟩
  | .hbm, ⟨69, _⟩ => ⟨S32768x1, .i32⟩
  | .hbm, ⟨70, _⟩ => ⟨S32768x2, .i32⟩
  | .hbm, ⟨71, _⟩ => ⟨S16x4096x16, .f32⟩
  | .hbm, ⟨72, _⟩ => ⟨S4096, .i32⟩
  | .hbm, ⟨73, _⟩ => ⟨S1x4096, .i32⟩
  | .hbm, ⟨74, _⟩ => ⟨S16x1, .i32⟩
  | .hbm, ⟨75, _⟩ => ⟨S16x4096, .i32⟩
  | .hbm, ⟨76, _⟩ => ⟨S16x4096, .i32⟩
  | .hbm, ⟨77, _⟩ => ⟨S16x4096, .i1⟩
  | .hbm, ⟨78, _⟩ => ⟨S16x4096, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16x4096x1, .f32⟩
  | .hbm, ⟨84, _⟩ => ⟨S16x4096x16, .f32⟩
  | .hbm, ⟨85, _⟩ => ⟨S16x4096x16, .f32⟩
  | .hbm, ⟨86, _⟩ => ⟨S_, .f32⟩
  | .hbm, ⟨87, _⟩ => ⟨S16x16, .f32⟩
  | .hbm, ⟨88, _⟩ => ⟨S16x1x16, .f32⟩
  | .hbm, ⟨89, _⟩ => ⟨S16x1x1, .f32⟩
  | .hbm, ⟨90, _⟩ => ⟨S16x1x16, .f32⟩
  | .hbm, ⟨91, _⟩ => ⟨S16x1x16, .f32⟩
  | .hbm, ⟨92, _⟩ => ⟨S16x4096x16, .f32⟩
  | .hbm, ⟨93, _⟩ => ⟨S16x4096x16, .f32⟩
  | .hbm, ⟨94, _⟩ => ⟨S16x4096x1, .f32⟩
  | .hbm, ⟨95, _⟩ => ⟨S16x4096x16, .f32⟩
  | .hbm, ⟨96, _⟩ => ⟨S16x4096x16, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S16, .f32⟩
  | .hbm, ⟨103, _⟩ => ⟨S16, .f32⟩
  | .hbm, ⟨104, _⟩ => ⟨S16x16x16, .f32⟩
  | .hbm, ⟨105, _⟩ => ⟨S16x1x1, .f32⟩
  | .hbm, ⟨106, _⟩ => ⟨S16x16x16, .f32⟩
  | .hbm, ⟨107, _⟩ => ⟨S16x16x16, .f32⟩
  | .hbm, ⟨108, _⟩ => ⟨S16x256, .f32⟩
  | .hbm, ⟨109, _⟩ => ⟨S16x256, .f32⟩
  | .hbm, ⟨110, _⟩ => ⟨S16x256, .f32⟩
  | .hbm, ⟨111, _⟩ => ⟨S_, .f32⟩
  | .hbm, ⟨112, _⟩ => ⟨S16x256, .f32⟩
  | .hbm, ⟨113, _⟩ => ⟨S16x256, .f32⟩
  | .hbm, ⟨114, _⟩ => ⟨S16x256, .f32⟩
  | .hbm, ⟨115, _⟩ => ⟨S16x256, .f32⟩
  | .hbm, ⟨116, _⟩ => ⟨S16x256, .f32⟩
  | .hbm, ⟨117, _⟩ => ⟨S_, .f32⟩
  | .hbm, ⟨118, _⟩ => ⟨S16, .f32⟩
  | .hbm, ⟨119, _⟩ => ⟨S16x1, .f32⟩
  | .hbm, ⟨120, _⟩ => ⟨S16x1, .f32⟩
  | .hbm, ⟨121, _⟩ => ⟨S_, .f32⟩
  | .hbm, ⟨122, _⟩ => ⟨S16x1, .f32⟩
  | .hbm, ⟨123, _⟩ => ⟨S16x1, .f32⟩
  | .hbm, ⟨124, _⟩ => ⟨S16x256, .f32⟩
  | .hbm, ⟨125, _⟩ => ⟨S16x256, .f32⟩
  | _, _ => ⟨S32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_call2_call0_c : Ref sig .tc := ⟨.hbm, 36, rfl⟩
abbrev main_call2_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call3_v0 : Ref sig .tc := ⟨.hbm, 116, rfl⟩
abbrev main_call3_cst : Ref sig .tc := ⟨.hbm, 117, rfl⟩
abbrev main_call3_v1 : Ref sig .tc := ⟨.hbm, 118, rfl⟩
abbrev main_call3_v2 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== Proof.Pieces.lean ====
/- Array lemmas that the kernel proofs share. -/
module

public import Idealize.ShloMosaic.Lib.Pipeline.ValueKit
public import Idealize.ShloMosaic.Lib.ValueIdx

@[expose] public section

noncomputable section

namespace Cert.Shared

open Idealize.ShloMosaic

variable {s : Shape} {e : EltTy} {Val : EltTy → Type}

/-- If every listed write puts at its own places what a function `g` has there, then a buffer
    written piece by piece holds `g` wherever some piece reaches. -/
theorem canon_eq_of_agree [∀ e, Nonempty (Val e)] (g : s.Idx → Val e) :
    ∀ (L : List (View.Piece Val s e)), (∀ p ∈ L, ∀ x, p.2 x = g (p.1.emb x)) →
      ∀ y, (∃ p ∈ L, y ∈ p.1.set) → View.canon L y = g y
  | [], _, y, h => by obtain ⟨p, hp, _⟩ := h; exact absurd hp (List.not_mem_nil)
  | p :: L, hL, y, h => by
    by_cases hy : y ∈ p.1.set
    · obtain ⟨r, w⟩ := p
      choose j hj hy using (LoadRect.mem_set _).mp hy
      obtain rfl : r.emb (fun a => ⟨j a, hj a⟩) = y := funext fun a => Fin.ext ((Rect.emb_apply ..).trans (hy a).symm)
      exact (View.canon_cons_emb r w L _).trans (hL ⟨r, w⟩ (List.mem_cons_self) _)
    · rw [View.canon_cons_of_not_mem p L hy]
      refine canon_eq_of_agree g L (fun q hq => hL q (List.mem_cons_of_mem _ hq)) y ?_
      obtain ⟨q, hq, hyq⟩ := h
      rcases List.mem_cons.mp hq with rfl | hq
      · exact absurd hyq hy
      · exact ⟨q, hq, hyq⟩

/-- The same for the contents read back through a view. -/
theorem read_writes_of_agree [∀ e, Nonempty (Val e)] {sig : RefSig} {κ : Kind} {sp : Space} (v : View sig κ sp s e)
    (f : v.ty.Contents Val) (L : List (View.Piece Val s e)) (g : s.Idx → Val e)
    (hL : ∀ p ∈ L, ∀ x, p.2 x = g (p.1.emb x)) (hc : ∀ y, ∃ p ∈ L, y ∈ p.1.set) :
    v.read Val (v.writes Val f L) = g := by
  rw [View.read_writes_eq_canon v f L hc]
  exact funext fun y => canon_eq_of_agree g L hL y (hc y)

end Cert.Shared
end
-- ==== Proof.DefsI.lean ====
/- The ideal kernel's tables, scratch contents and output blocks, as functions of its input blocks. -/
module

public import proofs.«01_k».proof.Proof.Gen.KernelIdeal.Frame
public import proofs.«01_k».proof.Proof.Gen.KernelIdeal.Skeleton
public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## What the kernel's grid points compute, as functions of the blocks they read -/

/-- How many of the ids are at most `c` (a 32-bit count). -/
def leCount (c : BitVec 32) (x1 : Vec F S256x128 .i32) : BitVec 32 :=
  extractAt ![0, 0, 0] (shapeCast S1x1x1 (multiReductionI .add [1, 2] S1
    (shapeCast S1x256x128 (extui 32 (cmpi .sle (shapeCast S256x128 x1 shapeCasts_S256x128_S256x128) (broadcast S256x128 c)) natLt_1_32)
      shapeCasts_S256x128_S1x256x128) 0#32 reduces_S1x256x128_S1 rfl) shapeCasts_S1_S1x1x1) inpos_S1x1x1_p0_0_0

/-- Where group `b` starts: the number of ids below `b`. -/
def offW (x1 : Vec F S256x128 .i32) : ℕ → BitVec 32
  | 0 => 0#32
  | b + 1 => leCount (BitVec.ofNat 32 b) x1

/-- How many ids group `b` has: the next start less its own, the last group running to the end. -/
def cntV (x1 : Vec F S256x128 .i32) : ℕ → BitVec 32
  | 15 => Scalar.subi 32768#32 (offW x1 15)
  | b => Scalar.subi (offW x1 (b + 1)) (offW x1 b)

/-- The floor quotient by 128 of a 32-bit word, as the kernel computes it. -/
def divW (o : BitVec 32) : BitVec 32 :=
  Scalar.select (Scalar.andi
      (Scalar.cmpi .ne (Scalar.subi (Scalar.extui (Scalar.cmpi .sgt o 0#32) : BitVec 32) (Scalar.extui (Scalar.cmpi .slt o 0#32)))
        (Scalar.subi (Scalar.extui (Scalar.cmpi .sgt 128#32 0#32) : BitVec 32) (Scalar.extui (Scalar.cmpi .slt 128#32 0#32))))
      (Scalar.cmpi .ne (Scalar.remsi o 128#32) 0#32))
    (Scalar.subi (Scalar.divsi o 128#32) 1#32) (Scalar.divsi o 128#32)

/-- The floor remainder by 128 of a 32-bit word, as the kernel computes it. -/
def modW (o : BitVec 32) : BitVec 32 :=
  Scalar.select (Scalar.andi
      (Scalar.xori (Scalar.cmpi .slt (Scalar.remsi o (Scalar.select (Scalar.cmpi .eq 128#32 0#32) 1#32 128#32)) 0#32)
        (Scalar.cmpi .slt (Scalar.select (Scalar.cmpi .eq 128#32 0#32) 1#32 128#32) 0#32))
      (Scalar.cmpi .ne (Scalar.remsi o (Scalar.select (Scalar.cmpi .eq 128#32 0#32) 1#32 128#32)) 0#32))
    (Scalar.addi (Scalar.remsi o (Scalar.select (Scalar.cmpi .eq 128#32 0#32) 1#32 128#32)) (Scalar.select (Scalar.cmpi .eq 128#32 0#32) 1#32 128#32))
    (Scalar.remsi o (Scalar.select (Scalar.cmpi .eq 128#32 0#32) 1#32 128#32))

/-- The table of starts: row 0 the quotients by 128, row 1 the remainders. -/
def tabW (x1 : Vec F S256x128 .i32) (y : S2x16.Idx) : Elt F .i32 :=
  match y 0 with
  | ⟨0, _⟩ => divW (offW x1 (y 1).val)
  | ⟨_ + 1, _⟩ => modW (offW x1 (y 1).val)

/-- The table of group sizes. -/
def cntW (x1 : Vec F S256x128 .i32) (y : S1x16.Idx) : Elt F .i32 := cntV x1 (y 1).val

/-- The scratch array of features: the two-layer network's outputs, then zeros. -/
def zbuf (x2 : Vec F S4x32768 .f32) (x3 : Vec F S64x4 .f32) (x4 : Vec F S64x1 .f32) (x5 : Vec F S16x64 .f32) (x6 : Vec F S16x1 .f32)
    (y : S16x36992.Idx) : Elt F .f32 :=
  if h : (y 1).val < 32768 then k0_pay2 x2 x3 x4 x5 x6 (ix2 (n0 := 16) (n1 := 32768) (y 0) ⟨(y 1).val, h⟩)
  else FloatOps.ofBits .f32 0x00000000#32

/-- The window of 4224 columns of the scratch array that starts at 128 times the word `q`. -/
def winAt (x9 : Vec F S16x36992 .f32) (q : BitVec 32) (y : S16x4224.Idx) : Elt F .f32 :=
  x9 (ix2 (n0 := 16) (n1 := 36992) (y 0) ⟨min (q.toNat * 128 + (y 1).val) 36991, by omega⟩)

/-- The normalised covariance of one group, from its phase, size and window. -/
def grpOut (ph cnt : Elt F .i32) (w : Vec F S16x4224 .f32) : FVec F S1x16x16 .f32 :=
  k0_pay26 (k0_pay24 ph cnt w) (k0_pay25 cnt) (FloatOps.ofBits .f32 0x3F800000#32)

/-- The padded features of one group, from its phase, size and window. -/
def grpLf (ph cnt : Elt F .i32) (w : Vec F S16x4224 .f32) : FVec F S1x16x4096 .f32 := k0_pay22 ph cnt w

/-- The group that grid point `i` treats as its `k`-th. -/
def bIx (i : grid0.Coords) (k : ℕ) : Fin 16 := Fin.ofNat 16 (8 * ((i 0).val - 1) + k)

/-- The block of normalised covariances that a covariance point leaves. -/
def outBlk (i : grid0.Coords) (x9 : Vec F S16x36992 .f32) (x10 : S2x16.Idx → Elt F .i32) (x11 : S1x16.Idx → Elt F .i32)
    (y : S8x16x16.Idx) : Elt F .f32 :=
  grpOut (x10 (ix2 1 (bIx i (y 0).val))) (x11 (ix2 0 (bIx i (y 0).val))) (winAt x9 (x10 (ix2 0 (bIx i (y 0).val))))
    (ix3 (n0 := 1) (n1 := 16) (n2 := 16) 0 (y 1) (y 2))

/-- The block of padded features that a covariance point leaves. -/
def lfBlk (i : grid0.Coords) (x9 : Vec F S16x36992 .f32) (x10 : S2x16.Idx → Elt F .i32) (x11 : S1x16.Idx → Elt F .i32)
    (y : S8x16x4096.Idx) : Elt F .f32 :=
  grpLf (x10 (ix2 1 (bIx i (y 0).val))) (x11 (ix2 0 (bIx i (y 0).val))) (winAt x9 (x10 (ix2 0 (bIx i (y 0).val))))
    (ix3 (n0 := 1) (n1 := 16) (n2 := 4096) 0 (y 1) (y 2))

end Cert.KernelIdeal.Hand
end
-- ==== Proof.BodyAI.lean ====
/- The ideal kernel's body at the first grid point: it fills the tables and the scratch array. -/
module

public import proofs.«01_k».proof.Proof.Gen.KernelIdeal.Frame
public import proofs.«01_k».proof.Proof.Gen.KernelIdeal.Skeleton
public import proofs.«01_k».proof.Proof.DefsI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The two words the start table holds for group 0. -/
theorem divW_zero : divW 0#32 = 0#32 := by decide
theorem modW_zero : modW 0#32 = 0#32 := by decide

/-- A cell of the start table's row 0. -/
theorem tabW_at0 {b : ℕ} (o : Fin 2 → ℕ) (h : o = ![0, b]) (inb : ∀ a, o a + S1x1.size a ≤ S2x16.size a) (x : S1x1.Idx) (x1 : Vec F S256x128 .i32) :
    tabW x1 ((Rect.unit (s := S2x16) o S1x1.size inb).emb x) = divW (offW x1 b) := by
  subst h
  have e : (Rect.unit (s := S2x16) ![0, b] S1x1.size inb).emb x = ix2 (n0 := 2) (n1 := 16) 0 ⟨b, by have := inb 1; exact this⟩ := by
    funext a; apply Fin.ext; rw [Rect.emb_apply]
    match a with
    | ⟨0, _⟩ => have := ValueIdx.idx2_lt0 (n0 := 1) (n1 := 1) x; show 0 + 1 * (x 0).val = 0; omega
    | ⟨1, _⟩ => have := ValueIdx.idx2_lt1 (n0 := 1) (n1 := 1) x; show b + 1 * (x 1).val = b; omega
  rw [e]; rfl

/-- A cell of the start table's row 1. -/
theorem tabW_at1 {b : ℕ} (o : Fin 2 → ℕ) (h : o = ![1, b]) (inb : ∀ a, o a + S1x1.size a ≤ S2x16.size a) (x : S1x1.Idx) (x1 : Vec F S256x128 .i32) :
    tabW x1 ((Rect.unit (s := S2x16) o S1x1.size inb).emb x) = modW (offW x1 b) := by
  subst h
  have e : (Rect.unit (s := S2x16) ![1, b] S1x1.size inb).emb x = ix2 (n0 := 2) (n1 := 16) 1 ⟨b, by have := inb 1; exact this⟩ := by
    funext a; apply Fin.ext; rw [Rect.emb_apply]
    match a with
    | ⟨0, _⟩ => have := ValueIdx.idx2_lt0 (n0 := 1) (n1 := 1) x; show 1 + 1 * (x 0).val = 1; omega
    | ⟨1, _⟩ => have := ValueIdx.idx2_lt1 (n0 := 1) (n1 := 1) x; show b + 1 * (x 1).val = b; omega
  rw [e]; rfl

/-- A cell of the size table. -/
theorem cntW_at {b : ℕ} (o : Fin 2 → ℕ) (h : o = ![0, b]) (inb : ∀ a, o a + S1x1.size a ≤ S1x16.size a) (x : S1x1.Idx) (x1 : Vec F S256x128 .i32) :
    cntW x1 ((Rect.unit (s := S1x16) o S1x1.size inb).emb x) = cntV x1 b := by
  subst h
  have e : (Rect.unit (s := S1x16) ![0, b] S1x1.size inb).emb x = ix2 (n0 := 1) (n1 := 16) 0 ⟨b, by have := inb 1; exact this⟩ := by
    funext a; apply Fin.ext; rw [Rect.emb_apply]
    match a with
    | ⟨0, _⟩ => have := ValueIdx.idx2_lt0 (n0 := 1) (n1 := 1) x; show 0 + 1 * (x 0).val = 0; omega
    | ⟨1, _⟩ => have := ValueIdx.idx2_lt1 (n0 := 1) (n1 := 1) x; show b + 1 * (x 1).val = b; omega
  rw [e]; rfl

/-- The scratch array's first 32768 columns hold the network's outputs. -/
theorem zbuf_mlp (o : Fin 2 → ℕ) (h : o = ![0, 32768 * 0]) (inb : ∀ a, o a + S16x32768.size a ≤ S16x36992.size a) (x : S16x32768.Idx)
    (x2 : Vec F S4x32768 .f32) (x3 : Vec F S64x4 .f32) (x4 : Vec F S64x1 .f32) (x5 : Vec F S16x64 .f32) (x6 : Vec F S16x1 .f32) :
    zbuf x2 x3 x4 x5 x6 ((Rect.unit (s := S16x36992) o S16x32768.size inb).emb x) = k0_pay2 x2 x3 x4 x5 x6 x := by
  subst h
  have hx := ValueIdx.idx2_lt1 (n0 := 16) (n1 := 32768) x
  have e1 : ((Rect.unit (s := S16x36992) ![0, 32768 * 0] S16x32768.size inb).emb x 1).val = (x 1).val := by
    rw [Rect.emb_apply]; show 32768 * 0 + 1 * (x 1).val = _; omega
  have e0 : ((Rect.unit (s := S16x36992) ![0, 32768 * 0] S16x32768.size inb).emb x 0).val = (x 0).val := by
    rw [Rect.emb_apply]; show 0 + 1 * (x 0).val = _; omega
  unfold zbuf
  rw [dif_pos (by rw [e1]; exact hx)]
  congr 1
  funext a; apply Fin.ext
  match a with
  | ⟨0, _⟩ => exact e0
  | ⟨1, _⟩ => exact e1

/-- The rest of the scratch array is zero. -/
theorem zbuf_tail (inb : ∀ a, (![0, 32768] : Fin 2 → ℕ) a + S16x4224.size a ≤ S16x36992.size a) (x : S16x4224.Idx)
    (x2 : Vec F S4x32768 .f32) (x3 : Vec F S64x4 .f32) (x4 : Vec F S64x1 .f32) (x5 : Vec F S16x64 .f32) (x6 : Vec F S16x1 .f32) :
    zbuf x2 x3 x4 x5 x6 ((Rect.unit (s := S16x36992) ![0, 32768] S16x4224.size inb).emb x) = k0_pay1 (F := F) x := by
  have e1 : ((Rect.unit (s := S16x36992) ![0, 32768] S16x4224.size inb).emb x 1).val = 32768 + (x 1).val := by
    rw [Rect.emb_apply]; show 32768 + 1 * (x 1).val = _; omega
  unfold zbuf
  rw [dif_neg (by rw [e1]; omega)]
  rfl

/-- The two stores into the scratch array fill it. -/
theorem cover9 (o : Fin 2 → ℕ) (h : o = ![0, 32768 * 0]) (inb : ∀ a, o a + S16x32768.size a ≤ S16x36992.size a)
    (inb' : ∀ a, (![0, 32768] : Fin 2 → ℕ) a + S16x4224.size a ≤ S16x36992.size a)
    (u : S16x32768.Idx → Elt F .f32) (w : S16x4224.Idx → Elt F .f32) (y : S16x36992.Idx) :
    ∃ p ∈ ([⟨Rect.unit o S16x32768.size inb, u⟩, ⟨Rect.unit ![0, 32768] S16x4224.size inb', w⟩] : List (View.Piece (Elt F) S16x36992 .f32)), y ∈ p.1.set := by
  subst h
  have y0 := ValueIdx.idx2_lt0 (n0 := 16) (n1 := 36992) y
  have y1 := ValueIdx.idx2_lt1 (n0 := 16) (n1 := 36992) y
  by_cases hy : (y 1).val < 32768
  · refine ⟨_, List.mem_cons_self, (Rect.mem_set_unit (inb := inb)).mpr fun a => ?_⟩
    match a with
    | ⟨0, _⟩ => exact ⟨Nat.zero_le _, by show (y 0).val < 0 + 16; omega⟩
    | ⟨1, _⟩ => exact ⟨by show 32768 * 0 ≤ (y 1).val; omega, by show (y 1).val < 32768 * 0 + 32768; omega⟩
  · refine ⟨_, List.mem_cons_of_mem _ List.mem_cons_self, (Rect.mem_set_unit (inb := inb')).mpr fun a => ?_⟩
    match a with
    | ⟨0, _⟩ => exact ⟨Nat.zero_le _, by show (y 0).val < 0 + 16; omega⟩
    | ⟨1, _⟩ => exact ⟨by show 32768 ≤ (y 1).val; omega, by show (y 1).val < 32768 + 4224; omega⟩

set_option maxHeartbeats 800000 in
/-- Grid point 0 leaves the features, the starts and the sizes in the scratch buffers, whatever they
    held, and its input blocks as they were. -/
theorem runA (c : Dev nD) (i : grid0.Coords) (h1 : Scalar.cmpi .ne (Scalar.extui (Scalar.cmpi .eq (BitVec.ofNat 32 (i 0).val) 0#32) : BitVec 32) 0#32 = 1#1)
    (hi : (i 0).val = 0) (h2 : k0_cond2 i = 1#1) (h3 : ¬ k0_cond3 i = 1#1)
    (arg1 : Memref sig .tc .vmem S256x128 .i32) (harg1 : arg1.IsWhole) (arg2 : Memref sig .tc .vmem S4x32768 .f32) (harg2 : arg2.IsWhole)
    (arg3 : Memref sig .tc .vmem S64x4 .f32) (harg3 : arg3.IsWhole) (arg4 : Memref sig .tc .vmem S64x1 .f32) (harg4 : arg4.IsWhole)
    (arg5 : Memref sig .tc .vmem S16x64 .f32) (harg5 : arg5.IsWhole) (arg6 : Memref sig .tc .vmem S16x1 .f32) (harg6 : arg6.IsWhole)
    (arg7 : Memref sig .tc .vmem S8x16x16 .f32) (harg7 : arg7.IsWhole) (arg8 : Memref sig .tc .vmem S8x16x4096 .f32) (harg8 : arg8.IsWhole)
    (arg9 : Memref sig .tc .vmem S16x36992 .f32) (harg9 : arg9.IsWhole) (arg10 : Memref sig .tc .smem S2x16 .i32) (harg10 : arg10.IsWhole)
    (arg11 : Memref sig .tc .smem S1x16 .i32) (harg11 : arg11.IsWhole)
    (x1 : S256x128.Idx → Elt F .i32) (x2 : S4x32768.Idx → Elt F .f32) (x3 : S64x4.Idx → Elt F .f32) (x4 : S64x1.Idx → Elt F .f32)
    (x5 : S16x64.Idx → Elt F .f32) (x6 : S16x1.Idx → Elt F .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg9 fullShare (zbuf x2 x3 x4 x5 x6) ∗ owns (c : Thread nD τ) arg10 fullShare (tabW x1)
        ∗ owns (c : Thread nD τ) arg11 fullShare (cntW x1))
           -∗ K ⟨⟩))
      ⊢ wp frame (wpE (defs₀ (F := F)) Variants.none c none) Set.univ
          (cc0__spcov_body i arg1 harg1 arg2 harg2 arg3 harg3 arg4 harg4 arg5 harg5 arg6 harg6 arg7 harg7 arg8 harg8 arg9 harg9 arg10 harg10 arg11 harg11) K := by
  simp only [cc0__spcov_body_eq_skeleton]; unfold cc0__spcov_body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d9, %f9, -, H9⟩, ⟨%d10, %f10, -, H10⟩, ⟨%d11, %f11, -, H11⟩, Hk⟩
  sl_exec
  sl_step
  iapply Hk
  isplitl [H1]
  · iexists f1; isplitr; swap; iexact H1; ipureintro; exact e1
  isplitl [H2]
  · iexists f2; isplitr; swap; iexact H2; ipureintro; exact e2
  isplitl [H3]
  · iexists f3; isplitr; swap; iexact H3; ipureintro; exact e3
  isplitl [H4]
  · iexists f4; isplitr; swap; iexact H4; ipureintro; exact e4
  isplitl [H5]
  · iexists f5; isplitr; swap; iexact H5; ipureintro; exact e5
  isplitl [H6]
  · iexists f6; isplitr; swap; iexact H6; ipureintro; exact e6
  have r1 : arg1.view.readAt (Elt F) (Rect.unit ![0, 0] S256x128.size inb_S256x128_S256x128_0_0).toLoadRect f1 = x1 := by
    rw [View.readAt_eq_ld, e1]; exact View.ld_unit_lit _ _ (by decide)
  have r2 : arg2.view.readAt (Elt F) (Rect.unit ![0, 0] S4x32768.size inb_S4x32768_S4x32768_0_0).toLoadRect f2 = x2 := by
    rw [View.readAt_eq_ld, e2]; exact View.ld_unit_lit _ _ (by decide)
  have r3 : arg3.view.readAt (Elt F) (Rect.unit ![0, 0] S64x4.size inb_S64x4_S64x4_0_0).toLoadRect f3 = x3 := by
    rw [View.readAt_eq_ld, e3]; exact View.ld_unit_lit _ _ (by decide)
  have r4 : arg4.view.readAt (Elt F) (Rect.unit ![0, 0] S64x1.size inb_S64x1_S64x1_0_0).toLoadRect f4 = x4 := by
    rw [View.readAt_eq_ld, e4]; exact View.ld_unit_lit _ _ (by decide)
  have r5 : arg5.view.readAt (Elt F) (Rect.unit ![0, 0] S16x64.size inb_S16x64_S16x64_0_0).toLoadRect f5 = x5 := by
    rw [View.readAt_eq_ld, e5]; exact View.ld_unit_lit _ _ (by decide)
  have r6 : arg6.view.readAt (Elt F) (Rect.unit ![0, 0] S16x1.size inb_S16x1_S16x1_0_0).toLoadRect f6 = x6 := by
    rw [View.readAt_eq_ld, e6]; exact View.ld_unit_lit _ _ (by decide)
  isplitl [H9]
  · iexists _; isplitr; swap; iexact H9; ipureintro
    refine Cert.Shared.read_writes_of_agree _ _ _ _ ?_ ?_
    · refine List.forall_mem_cons.mpr ⟨fun x => ?_, List.forall_mem_cons.mpr ⟨fun x => ?_, List.forall_mem_nil _⟩⟩
      · refine Eq.trans ?_ (zbuf_mlp (k0_off1 i) (by rw [k0_off1_eq, hi]) (k0_off1_inb i h2) x x2 x3 x4 x5 x6).symm
        rw [r2, r3, r4, r5, r6]
      · exact (zbuf_tail inb_S16x36992_S16x4224_0_32768 x x2 x3 x4 x5 x6).symm
    · exact fun y => cover9 (k0_off1 i) (by rw [k0_off1_eq, hi]) _ _ _ _ y
  isplitl [H10]
  · iexists _; isplitr; swap; iexact H10; ipureintro
    refine Cert.Shared.read_writes_of_agree _ _ _ _ ?_ (View.cover_of_tiledL _ ![1, 1] (by sl_kernel_rfl))
    repeat' (first | refine List.forall_mem_cons.mpr ⟨fun x => ?_, ?_⟩ | exact List.forall_mem_nil _)
    all_goals first | rw [tabW_at0 _ rfl] | rw [tabW_at1 _ rfl]
    all_goals sl_unfold_run_names
    all_goals first | rw [r1] | exact divW_zero.symm | exact modW_zero.symm
    all_goals rfl
  · iexists _; isplitr; swap; iexact H11; ipureintro
    refine Cert.Shared.read_writes_of_agree _ _ _ _ ?_ (View.cover_of_tiledL _ ![1, 1] (by sl_kernel_rfl))
    repeat' (first | refine List.forall_mem_cons.mpr ⟨fun x => ?_, ?_⟩ | exact List.forall_mem_nil _)
    all_goals rw [cntW_at _ rfl]
    all_goals sl_unfold_run_names
    all_goals rw [r1]
    all_goals rfl

end Cert.KernelIdeal.Hand
end
-- ==== Proof.BodyBI.lean ====
/- The ideal kernel's body at the later grid points: it writes one block of eight groups. -/
module

public import proofs.«01_k».proof.Proof.Gen.KernelIdeal.Frame
public import proofs.«01_k».proof.Proof.Gen.KernelIdeal.Skeleton
public import proofs.«01_k».proof.Proof.DefsI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- 128 times a word of at most 256, as the kernel multiplies, is the product. -/
theorem mul128 (v : BitVec 32) (h : v.toNat ≤ 256) : (Scalar.muli v 128#32 : BitVec 32).toNat = v.toNat * 128 := by
  have : (Scalar.muli v 128#32 : BitVec 32).toNat = v.toNat * 128 % 2 ^ 32 := BitVec.toNat_mul v 128#32
  omega

/-- A window that starts at 128 times a word of at most 256 lies in the scratch array. -/
theorem chk_le (v : BitVec 32) (h : v.toNat ≤ 256) (a : Fin 2) :
    (![0, (Scalar.muli v 128#32 : BitVec 32).toNat] : Fin 2 → ℕ) a + S16x4224.size a ≤ S16x36992.size a := by
  match a with
  | ⟨0, _⟩ => exact (by decide : 0 + 16 ≤ 16)
  | ⟨1, _⟩ => show (Scalar.muli v 128#32 : BitVec 32).toNat + 4224 ≤ 36992; rw [mul128 v h]; omega

/-! The eight checks of a covariance point, each from the start word's bound. -/
theorem chk1_of (i : grid0.Coords) (v : BitVec 32) (h : v.toNat ≤ 256) : k0_chk1 i v := fun _ => chk_le v h
theorem chk2_of (i : grid0.Coords) (v : BitVec 32) (h : v.toNat ≤ 256) : k0_chk2 i v := fun _ => chk_le v h
theorem chk3_of (i : grid0.Coords) (v : BitVec 32) (h : v.toNat ≤ 256) : k0_chk3 i v := fun _ => chk_le v h
theorem chk4_of (i : grid0.Coords) (v : BitVec 32) (h : v.toNat ≤ 256) : k0_chk4 i v := fun _ => chk_le v h
theorem chk5_of (i : grid0.Coords) (v : BitVec 32) (h : v.toNat ≤ 256) : k0_chk5 i v := fun _ => chk_le v h
theorem chk6_of (i : grid0.Coords) (v : BitVec 32) (h : v.toNat ≤ 256) : k0_chk6 i v := fun _ => chk_le v h
theorem chk7_of (i : grid0.Coords) (v : BitVec 32) (h : v.toNat ≤ 256) : k0_chk7 i v := fun _ => chk_le v h
theorem chk8_of (i : grid0.Coords) (v : BitVec 32) (h : v.toNat ≤ 256) : k0_chk8 i v := fun _ => chk_le v h

/-- Where a covariance point looks up its eight groups' table entries. -/
theorem offs_eq : ∀ i : grid0.Coords, k0_cond3 i = 1#1 → k0_off2 i = ![1, (bIx i 0).val] ∧ k0_off3 i = ![0, (bIx i 0).val] ∧ k0_off4 i = ![0, (bIx i 0).val]
    ∧ k0_off6 i = ![1, (bIx i 1).val] ∧ k0_off7 i = ![0, (bIx i 1).val] ∧ k0_off8 i = ![0, (bIx i 1).val]
    ∧ k0_off10 i = ![1, (bIx i 2).val] ∧ k0_off11 i = ![0, (bIx i 2).val] ∧ k0_off12 i = ![0, (bIx i 2).val]
    ∧ k0_off14 i = ![1, (bIx i 3).val] ∧ k0_off15 i = ![0, (bIx i 3).val] ∧ k0_off16 i = ![0, (bIx i 3).val]
    ∧ k0_off18 i = ![1, (bIx i 4).val] ∧ k0_off19 i = ![0, (bIx i 4).val] ∧ k0_off20 i = ![0, (bIx i 4).val]
    ∧ k0_off22 i = ![1, (bIx i 5).val] ∧ k0_off23 i = ![0, (bIx i 5).val] ∧ k0_off24 i = ![0, (bIx i 5).val]
    ∧ k0_off26 i = ![1, (bIx i 6).val] ∧ k0_off27 i = ![0, (bIx i 6).val] ∧ k0_off28 i = ![0, (bIx i 6).val]
    ∧ k0_off30 i = ![1, (bIx i 7).val] ∧ k0_off31 i = ![0, (bIx i 7).val] ∧ k0_off32 i = ![0, (bIx i 7).val] := by decide +kernel

section Reads

variable {sp : Space} {x9 : Vec F S16x36992 .f32} {x10 : S2x16.Idx → Elt F .i32} {x11 : S1x16.Idx → Elt F .i32}

/-- A one-cell read of a table of 2 by 16. -/
theorem rd10 {v : View sig .tc sp S2x16 .i32} {f : v.ty.Contents (Elt F)} (e : v.read (Elt F) f = x10) {o : Fin 2 → ℕ} {r : Fin 2} {b : Fin 16}
    (h : o = ![r.val, b.val]) (inb : ∀ a, o a + S1x1.size a ≤ S2x16.size a) (z : S1x1.Idx) :
    v.readAt (Elt F) (Rect.unit (s := S2x16) o S1x1.size inb).toLoadRect f z = x10 (ix2 r b) := by
  subst h
  rw [View.readAt_apply, e]
  congr 1; funext a; apply Fin.ext
  match a with
  | ⟨0, _⟩ => have := ValueIdx.idx2_lt0 (n0 := 1) (n1 := 1) z; show r.val + 1 * (z 0).val = r.val; omega
  | ⟨1, _⟩ => have := ValueIdx.idx2_lt1 (n0 := 1) (n1 := 1) z; show b.val + 1 * (z 1).val = b.val; omega

/-- A one-cell read of a table of 1 by 16. -/
theorem rd11 {v : View sig .tc sp S1x16 .i32} {f : v.ty.Contents (Elt F)} (e : v.read (Elt F) f = x11) {o : Fin 2 → ℕ} {b : Fin 16}
    (h : o = ![0, b.val]) (inb : ∀ a, o a + S1x1.size a ≤ S1x16.size a) (z : S1x1.Idx) :
    v.readAt (Elt F) (Rect.unit (s := S1x16) o S1x1.size inb).toLoadRect f z = x11 (ix2 0 b) := by
  subst h
  rw [View.readAt_apply, e]
  congr 1; funext a; apply Fin.ext
  match a with
  | ⟨0, _⟩ => have := ValueIdx.idx2_lt0 (n0 := 1) (n1 := 1) z; show 0 + 1 * (z 0).val = 0; omega
  | ⟨1, _⟩ => have := ValueIdx.idx2_lt1 (n0 := 1) (n1 := 1) z; show b.val + 1 * (z 1).val = b.val; omega

/-- A read of a window of the scratch array. -/
theorem rd9 {v : View sig .tc sp S16x36992 .f32} {f : v.ty.Contents (Elt F)} (e : v.read (Elt F) f = x9) (q : BitVec 32) (hq : q.toNat ≤ 256)
    {o : Fin 2 → ℕ} (h : o = ![0, (Scalar.muli q 128#32 : BitVec 32).toNat]) (inb : ∀ a, o a + S16x4224.size a ≤ S16x36992.size a) :
    v.readAt (Elt F) (Rect.unit (s := S16x36992) o S16x4224.size inb).toLoadRect f = winAt x9 q := by
  subst h
  funext z
  rw [View.readAt_apply, e]
  unfold winAt
  congr 1; funext a; apply Fin.ext
  match a with
  | ⟨0, _⟩ => show 0 + 1 * (z 0).val = (z 0).val; omega
  | ⟨1, _⟩ =>
    have := ValueIdx.idx2_lt1 (n0 := 16) (n1 := 4224) z
    show (Scalar.muli q 128#32 : BitVec 32).toNat + 1 * (z 1).val = min (q.toNat * 128 + (z 1).val) 36991
    have := mul128 q hq; omega

/-- A value of the three reads of one group is that value of the table entries and the window. -/
theorem grp_eq {sp10 sp11 sp9 : Space} {α : Sort*} (g : Elt F .i32 → Elt F .i32 → Vec F S16x4224 .f32 → α)
    {v10 : View sig .tc sp10 S2x16 .i32} {f10 : v10.ty.Contents (Elt F)} (e10 : v10.read (Elt F) f10 = x10)
    {v11 : View sig .tc sp11 S1x16 .i32} {f11 : v11.ty.Contents (Elt F)} (e11 : v11.read (Elt F) f11 = x11)
    {v9 : View sig .tc sp9 S16x36992 .f32} {f9 : v9.ty.Contents (Elt F)} (e9 : v9.read (Elt F) f9 = x9)
    (hx : ∀ y, (x10 y).toNat ≤ 256) {b : Fin 16} {o1 o3 o4 : Fin 2 → ℕ} (h1 : o1 = ![1, b.val]) (h3 : o3 = ![0, b.val]) (h4 : o4 = ![0, b.val])
    (i1 : ∀ a, o1 a + S1x1.size a ≤ S2x16.size a) (i3 : ∀ a, o3 a + S1x1.size a ≤ S1x16.size a) (i4 : ∀ a, o4 a + S1x1.size a ≤ S2x16.size a)
    (z1 z3 z4 : S1x1.Idx) {o5 : Fin 2 → ℕ}
    (h5 : o5 = ![0, (Scalar.muli (v10.readAt (Elt F) (Rect.unit (s := S2x16) o4 S1x1.size i4).toLoadRect f10 z4) 128#32 : BitVec 32).toNat])
    (i5 : ∀ a, o5 a + S16x4224.size a ≤ S16x36992.size a) :
    g (v10.readAt (Elt F) (Rect.unit (s := S2x16) o1 S1x1.size i1).toLoadRect f10 z1)
        (v11.readAt (Elt F) (Rect.unit (s := S1x16) o3 S1x1.size i3).toLoadRect f11 z3)
        (v9.readAt (Elt F) (Rect.unit (s := S16x36992) o5 S16x4224.size i5).toLoadRect f9)
      = g (x10 (ix2 1 b)) (x11 (ix2 0 b)) (winAt x9 (x10 (ix2 0 b))) := by
  have r4 := rd10 e10 (r := 0) h4 i4 z4
  rw [rd10 e10 (r := 1) h1, rd11 e11 h3, rd9 e9 (x10 (ix2 0 b)) (hx _) (by rw [h5, r4])]

end Reads

/-- A slab of the block of covariances. -/
theorem outBlk_at (i : grid0.Coords) (x9 : Vec F S16x36992 .f32) (x10 : S2x16.Idx → Elt F .i32) (x11 : S1x16.Idx → Elt F .i32) {k : ℕ}
    (inb : ∀ a, (![k, 0, 0] : Fin 3 → ℕ) a + S1x16x16.size a ≤ S8x16x16.size a) (x : S1x16x16.Idx) :
    outBlk i x9 x10 x11 ((Rect.unit (s := S8x16x16) ![k, 0, 0] S1x16x16.size inb).emb x)
      = grpOut (x10 (ix2 1 (bIx i k))) (x11 (ix2 0 (bIx i k))) (winAt x9 (x10 (ix2 0 (bIx i k)))) x := by
  have hk : k < 8 := by have h := inb 0; change k + 1 ≤ 8 at h; omega
  have x0 : (x 0).val < 1 := (x 0).isLt
  have e : (Rect.unit (s := S8x16x16) ![k, 0, 0] S1x16x16.size inb).emb x = ix3 (n0 := 8) (n1 := 16) (n2 := 16) ⟨k, hk⟩ (x 1) (x 2) := by
    funext a; apply Fin.ext; rw [Rect.emb_apply]
    match a with
    | ⟨0, _⟩ => show k + 1 * (x 0).val = k; omega
    | ⟨1, _⟩ => show 0 + 1 * (x 1).val = (x 1).val; omega
    | ⟨2, _⟩ => show 0 + 1 * (x 2).val = (x 2).val; omega
  have e' : ix3 (n0 := 1) (n1 := 16) (n2 := 16) 0 (x 1) (x 2) = x := by
    funext a; apply Fin.ext
    match a with
    | ⟨0, _⟩ => show 0 = (x 0).val; omega
    | ⟨1, _⟩ => rfl
    | ⟨2, _⟩ => rfl
  rw [e]
  show grpOut _ _ _ (ix3 (n0 := 1) (n1 := 16) (n2 := 16) 0 (x 1) (x 2)) = _
  rw [e']; rfl

/-- A slab of the block of padded features. -/
theorem lfBlk_at (i : grid0.Coords) (x9 : Vec F S16x36992 .f32) (x10 : S2x16.Idx → Elt F .i32) (x11 : S1x16.Idx → Elt F .i32) {k : ℕ}
    (inb : ∀ a, (![k, 0, 0] : Fin 3 → ℕ) a + S1x16x4096.size a ≤ S8x16x4096.size a) (x : S1x16x4096.Idx) :
    lfBlk i x9 x10 x11 ((Rect.unit (s := S8x16x4096) ![k, 0, 0] S1x16x4096.size inb).emb x)
      = grpLf (x10 (ix2 1 (bIx i k))) (x11 (ix2 0 (bIx i k))) (winAt x9 (x10 (ix2 0 (bIx i k)))) x := by
  have hk : k < 8 := by have h := inb 0; change k + 1 ≤ 8 at h; omega
  have x0 : (x 0).val < 1 := (x 0).isLt
  have e : (Rect.unit (s := S8x16x4096) ![k, 0, 0] S1x16x4096.size inb).emb x = ix3 (n0 := 8) (n1 := 16) (n2 := 4096) ⟨k, hk⟩ (x 1) (x 2) := by
    funext a; apply Fin.ext; rw [Rect.emb_apply]
    match a with
    | ⟨0, _⟩ => show k + 1 * (x 0).val = k; omega
    | ⟨1, _⟩ => show 0 + 1 * (x 1).val = (x 1).val; omega
    | ⟨2, _⟩ => show 0 + 1 * (x 2).val = (x 2).val; omega
  have e' : ix3 (n0 := 1) (n1 := 16) (n2 := 4096) 0 (x 1) (x 2) = x := by
    funext a; apply Fin.ext
    match a with
    | ⟨0, _⟩ => show 0 = (x 0).val; omega
    | ⟨1, _⟩ => rfl
    | ⟨2, _⟩ => rfl
  rw [e]
  show grpLf _ _ _ (ix3 (n0 := 1) (n1 := 16) (n2 := 4096) 0 (x 1) (x 2)) = _
  rw [e']; rfl

set_option maxHeartbeats 800000 in
/-- A covariance grid point fills its two output blocks from the tables and the scratch array, which it
    leaves as they were. -/
theorem runB (x10 : S2x16.Idx → Elt F .i32) (x11 : S1x16.Idx → Elt F .i32) (x9 : S16x36992.Idx → Elt F .f32) (c : Dev nD) (i : grid0.Coords) (h1 : ¬ Scalar.cmpi .ne (Scalar.extui (Scalar.cmpi .eq (BitVec.ofNat 32 (i 0).val) 0#32) : BitVec 32) 0#32 = 1#1)
    (h2 : ¬ k0_cond2 i = 1#1) (h3 : k0_cond3 i = 1#1) (hx : ∀ y, (x10 y).toNat ≤ 256)
    (arg1 : Memref sig .tc .vmem S256x128 .i32) (harg1 : arg1.IsWhole) (arg2 : Memref sig .tc .vmem S4x32768 .f32) (harg2 : arg2.IsWhole)
    (arg3 : Memref sig .tc .vmem S64x4 .f32) (harg3 : arg3.IsWhole) (arg4 : Memref sig .tc .vmem S64x1 .f32) (harg4 : arg4.IsWhole)
    (arg5 : Memref sig .tc .vmem S16x64 .f32) (harg5 : arg5.IsWhole) (arg6 : Memref sig .tc .vmem S16x1 .f32) (harg6 : arg6.IsWhole)
    (arg7 : Memref sig .tc .vmem S8x16x16 .f32) (harg7 : arg7.IsWhole) (arg8 : Memref sig .tc .vmem S8x16x4096 .f32) (harg8 : arg8.IsWhole)
    (arg9 : Memref sig .tc .vmem S16x36992 .f32) (harg9 : arg9.IsWhole) (arg10 : Memref sig .tc .smem S2x16 .i32) (harg10 : arg10.IsWhole)
    (arg11 : Memref sig .tc .smem S1x16 .i32) (harg11 : arg11.IsWhole)
    (K : PUnit → sProp 𝕄) :
    iprop((∃ d, owns (c : Thread nD τ) arg7 fullShare d) ∗ (∃ d, owns (c : Thread nD τ) arg8 fullShare d)
        ∗ owns (c : Thread nD τ) arg9 fullShare x9 ∗ owns (c : Thread nD τ) arg10 fullShare x10 ∗ owns (c : Thread nD τ) arg11 fullShare x11
        ∗ (iprop(owns (c : Thread nD τ) arg7 fullShare (outBlk i x9 x10 x11) ∗ owns (c : Thread nD τ) arg8 fullShare (lfBlk i x9 x10 x11)
        ∗ owns (c : Thread nD τ) arg9 fullShare x9 ∗ owns (c : Thread nD τ) arg10 fullShare x10 ∗ owns (c : Thread nD τ) arg11 fullShare x11)
           -∗ K ⟨⟩))
      ⊢ wp frame (wpE (defs₀ (F := F)) Variants.none c none) Set.univ
          (cc0__spcov_body i arg1 harg1 arg2 harg2 arg3 harg3 arg4 harg4 arg5 harg5 arg6 harg6 arg7 harg7 arg8 harg8 arg9 harg9 arg10 harg10 arg11 harg11) K := by
  simp only [cc0__spcov_body_eq_skeleton]; unfold cc0__spcov_body_skel
  unfold owns
  iintro ⟨⟨%d7, %f7, -, H7⟩, ⟨%d8, %f8, -, H8⟩, ⟨%f9, %e9, H9⟩, ⟨%f10, %e10, H10⟩, ⟨%f11, %e11, H11⟩, Hk⟩
  have hr : ∀ (B : LoadRect S2x16) y, (arg10.view.readAt (Elt F) B f10 y).toNat ≤ 256 := fun B y => by
    rw [View.readAt_apply, e10]; exact hx _
  sl_exec (disch := first | sl_exact (chk1_of i _ (hr _ _)) | sl_exact (chk2_of i _ (hr _ _)) | sl_exact (chk3_of i _ (hr _ _)) | sl_exact (chk4_of i _ (hr _ _)) | sl_exact (chk5_of i _ (hr _ _)) | sl_exact (chk6_of i _ (hr _ _)) | sl_exact (chk7_of i _ (hr _ _)) | sl_exact (chk8_of i _ (hr _ _)))
  sl_step
  iapply Hk
  obtain ⟨a0, c0, q0, a1, c1, q1, a2, c2, q2, a3, c3, q3, a4, c4, q4, a5, c5, q5, a6, c6, q6, a7, c7, q7⟩ := offs_eq i h3
  isplitl [H7]
  · iexists _; isplitr; swap; iexact H7; ipureintro
    refine Cert.Shared.read_writes_of_agree _ _ _ _ ?_ (View.cover_of_tiledL _ ![1, 16, 16] (by sl_kernel_rfl))
    repeat' (first | refine List.forall_mem_cons.mpr ⟨fun x => ?_, ?_⟩ | exact List.forall_mem_nil _)
    all_goals (rw [outBlk_at]; sl_unfold_run_names)
    · exact grp_eq (fun a b w => grpOut a b w x) e10 e11 e9 hx a7 c7 q7 _ _ _ _ _ _ rfl _
    · exact grp_eq (fun a b w => grpOut a b w x) e10 e11 e9 hx a6 c6 q6 _ _ _ _ _ _ rfl _
    · exact grp_eq (fun a b w => grpOut a b w x) e10 e11 e9 hx a5 c5 q5 _ _ _ _ _ _ rfl _
    · exact grp_eq (fun a b w => grpOut a b w x) e10 e11 e9 hx a4 c4 q4 _ _ _ _ _ _ rfl _
    · exact grp_eq (fun a b w => grpOut a b w x) e10 e11 e9 hx a3 c3 q3 _ _ _ _ _ _ rfl _
    · exact grp_eq (fun a b w => grpOut a b w x) e10 e11 e9 hx a2 c2 q2 _ _ _ _ _ _ rfl _
    · exact grp_eq (fun a b w => grpOut a b w x) e10 e11 e9 hx a1 c1 q1 _ _ _ _ _ _ rfl _
    · exact grp_eq (fun a b w => grpOut a b w x) e10 e11 e9 hx a0 c0 q0 _ _ _ _ _ _ rfl _
  isplitl [H8]
  · iexists _; isplitr; swap; iexact H8; ipureintro
    refine Cert.Shared.read_writes_of_agree _ _ _ _ ?_ (View.cover_of_tiledL _ ![1, 16, 4096] (by sl_kernel_rfl))
    repeat' (first | refine List.forall_mem_cons.mpr ⟨fun x => ?_, ?_⟩ | exact List.forall_mem_nil _)
    all_goals (rw [lfBlk_at]; sl_unfold_run_names)
    · exact grp_eq (fun a b w => grpLf a b w x) e10 e11 e9 hx a7 c7 q7 _ _ _ _ _ _ rfl _
    · exact grp_eq (fun a b w => grpLf a b w x) e10 e11 e9 hx a6 c6 q6 _ _ _ _ _ _ rfl _
    · exact grp_eq (fun a b w => grpLf a b w x) e10 e11 e9 hx a5 c5 q5 _ _ _ _ _ _ rfl _
    · exact grp_eq (fun a b w => grpLf a b w x) e10 e11 e9 hx a4 c4 q4 _ _ _ _ _ _ rfl _
    · exact grp_eq (fun a b w => grpLf a b w x) e10 e11 e9 hx a3 c3 q3 _ _ _ _ _ _ rfl _
    · exact grp_eq (fun a b w => grpLf a b w x) e10 e11 e9 hx a2 c2 q2 _ _ _ _ _ _ rfl _
    · exact grp_eq (fun a b w => grpLf a b w x) e10 e11 e9 hx a1 c1 q1 _ _ _ _ _ _ rfl _
    · exact grp_eq (fun a b w => grpLf a b w x) e10 e11 e9 hx a0 c0 q0 _ _ _ _ _ _ rfl _
  isplitl [H9]
  · iexists f9; isplitr; swap; iexact H9; ipureintro; exact e9
  isplitl [H10]
  · iexists f10; isplitr; swap; iexact H10; ipureintro; exact e10
  · iexists f11; isplitr; swap; iexact H11; ipureintro; exact e11

end Cert.KernelIdeal.Hand
end
-- ==== Proof.TabI.lean ====
/- The ideal kernel's first grid point: the tables of group starts and sizes. -/
module

public import proofs.«01_k».proof.Proof.Gen.KernelIdeal.Frame
public import proofs.«01_k».proof.Proof.Gen.KernelIdeal.Skeleton
public import proofs.«01_k».proof.Proof.DefsI
public import Idealize.ShloMosaic.Lib.IndicatorCount

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The ids as one list: entry `t` of the row-major 256×128 block. -/
def idAt (x1 : Vec F S256x128 .i32) (t : Fin 32768) : BitVec 32 :=
  x1 (ix2 (n0 := 256) (n1 := 128) ⟨t.val / 128, by omega⟩ ⟨t.val % 128, by omega⟩)

/-- The number of ids at most `c`. -/
def nLe (x1 : Vec F S256x128 .i32) (c : BitVec 32) : ℕ := (Finset.univ.filter fun t : Fin 32768 => (idAt x1 t).sle c = true).card

theorem ofBool_eq_one {b : Bool} : BitVec.ofBool b = 1#1 ↔ b = true := by cases b <;> decide

theorem nLe_le (x1 : Vec F S256x128 .i32) (c : BitVec 32) : nLe x1 c ≤ 32768 :=
  (Finset.card_filter_le _ _).trans (by simp)

/-- The kernel's count of the ids at most `c` is their number. -/
theorem leCount_eq (c : BitVec 32) (x1 : Vec F S256x128 .i32) : leCount c x1 = BitVec.ofNat 32 (nLe x1 c) := by
  unfold leCount
  pointwise
  rw [IndicatorCount.fold_addi_setWidth_eq_card (fun x : Fin 256 × Fin 128 => IntOp.cmpi .sle (x1 (ix2 x.1 x.2)) c)]
  refine congrArg _ ?_
  unfold nLe
  refine Finset.card_bij' (fun x _ => (⟨128 * x.1.val + x.2.val, by omega⟩ : Fin 32768))
    (fun t _ => ((⟨t.val / 128, by omega⟩ : Fin 256), (⟨t.val % 128, by omega⟩ : Fin 128))) ?_ ?_ ?_ ?_
  · intro x hx
    rw [Finset.mem_filter] at hx ⊢
    refine ⟨Finset.mem_univ _, ?_⟩
    have e : idAt x1 ⟨128 * x.1.val + x.2.val, by omega⟩ = x1 (ix2 x.1 x.2) := by
      unfold idAt
      congr 2 <;> exact Fin.ext (by dsimp only; omega)
    rw [e]; exact ofBool_eq_one.mp hx.2
  · intro t ht
    rw [Finset.mem_filter] at ht ⊢
    exact ⟨Finset.mem_univ _, ofBool_eq_one.mpr ht.2⟩
  · intro x _; ext <;> dsimp only <;> omega
  · intro t _; ext; dsimp only; omega

/-- A start is at most the number of ids. -/
theorem offW_le (x1 : Vec F S256x128 .i32) (b : ℕ) : (offW x1 b).toNat ≤ 32768 := by
  cases b with
  | zero => exact Nat.zero_le _
  | succ b =>
    show (leCount _ x1).toNat ≤ _
    rw [leCount_eq, BitVec.toNat_ofNat]
    exact (Nat.mod_le _ _).trans (nLe_le x1 _)

/-- A non-negative word is not below zero. -/
theorem slt_zero (o : BitVec 32) (h : 2 * o.toNat < 2 ^ 32) : Scalar.cmpi .slt o 0#32 = 0#1 := by
  have hm : o.msb = false := BitVec.msb_eq_false_iff_two_mul_lt.mpr h
  show BitVec.ofBool (o.slt 0#32) = 0#1
  rw [BitVec.slt_zero_eq_msb, hm]; rfl

/-- On the words up to 32768 the kernel's floor quotient and remainder by 128 are those of the values. -/
theorem divmod_toNat (o : BitVec 32) (h : o.toNat ≤ 32768) : (divW o).toNat = o.toNat / 128 ∧ (modW o).toNat = o.toNat % 128 := by
  have hr : (Scalar.remsi o 128#32).toNat = o.toNat % 128 := IntOp.toNat_remsi _ (by omega) 128 (by decide) (by decide)
  have hd : (Scalar.divsi o 128#32).toNat = o.toNat / 128 := by
    have hm : o.msb = false := BitVec.msb_eq_false_iff_two_mul_lt.mpr (by omega)
    show (IntOp.divsi .scalar o 128#32).toNat = _
    rw [IntOp.divsi, if_neg (IntOp.not_corner_of_pos (by decide)), BitVec.sdiv_eq, hm, show (128#32 : BitVec 32).msb = false from by decide]
    show (o / 128#32).toNat = _
    rw [BitVec.toNat_udiv]; rfl
  constructor
  · by_cases hz : o = 0#32
    · subst hz; decide +kernel
    · have e : divW o = Scalar.divsi o 128#32 := by
        unfold divW
        rw [slt_zero o (by omega)]
        have hp : Scalar.cmpi .sgt o 0#32 = 1#1 := by
          show BitVec.ofBool (BitVec.slt 0#32 o) = 1#1
          rw [ofBool_eq_one, BitVec.slt_eq_decide, decide_eq_true_eq, BitVec.toInt_eq_toNat_of_lt (x := o) (by omega)]
          have : o.toNat ≠ 0 := fun h0 => hz (BitVec.eq_of_toNat_eq h0)
          show (0 : ℤ) < _
          omega
        rw [hp]
        generalize Scalar.cmpi .ne (Scalar.remsi o 128#32) 0#32 = q
        have : ∀ q : BitVec 1, Scalar.andi (Scalar.cmpi .ne (Scalar.subi (Scalar.extui 1#1 : BitVec 32) (Scalar.extui 0#1))
          (Scalar.subi (Scalar.extui (Scalar.cmpi .sgt 128#32 0#32) : BitVec 32) (Scalar.extui (Scalar.cmpi .slt 128#32 0#32)))) q = 0#1 := by decide +kernel
        rw [this q]; rfl
      rw [e, hd]
  · have e : modW o = Scalar.remsi o 128#32 := by
      unfold modW
      rw [show Scalar.select (Scalar.cmpi .eq 128#32 0#32) 1#32 128#32 = 128#32 from by decide +kernel, slt_zero _ (by rw [hr]; omega)]
      generalize Scalar.cmpi .ne (Scalar.remsi o 128#32) 0#32 = q
      have : ∀ q : BitVec 1, Scalar.andi (Scalar.xori 0#1 (Scalar.cmpi .slt 128#32 0#32)) q = 0#1 := by decide +kernel
      rw [this q]; rfl
    rw [e, hr]

/-- The words of the start table are at most 256. -/
theorem tabW_le (x1 : Vec F S256x128 .i32) (y : S2x16.Idx) : (tabW x1 y).toNat ≤ 256 := by
  unfold tabW
  have h := offW_le x1 (y 1).val
  split
  · rw [(divmod_toNat _ h).1]; omega
  · rw [(divmod_toNat _ h).2]; omega

end Cert.KernelIdeal.Hand
end
-- ==== Proof.RunI.lean ====
/- The ideal kernel run as a whole. -/
module

public import proofs.«01_k».proof.Proof.Gen.KernelIdeal.Frame
public import proofs.«01_k».proof.Proof.Gen.KernelIdeal.Skeleton
public import proofs.«01_k».proof.Proof.BodyAI
public import proofs.«01_k».proof.Proof.BodyBI
public import proofs.«01_k».proof.Proof.TabI
public import Idealize.ShloMosaic.Lib.Pipeline.Frame
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the grid reads and what it leaves -/

/-- The input blocks: each is the same at every point; here at the first. -/
def in0 (c : Dev nD) : S256x128.Idx → Elt F .i32 := iblk m c 0 t0_0
def in1 (c : Dev nD) : S4x32768.Idx → Elt F .f32 := iblk m c 1 t0_0
def in2 (c : Dev nD) : S64x4.Idx → Elt F .f32 := iblk m c 2 t0_0
def in3 (c : Dev nD) : S64x1.Idx → Elt F .f32 := iblk m c 3 t0_0
def in4 (c : Dev nD) : S16x64.Idx → Elt F .f32 := iblk m c 4 t0_0
def in5 (c : Dev nD) : S16x1.Idx → Elt F .f32 := iblk m c 5 t0_0

/-- The scratch array of features after the first point. -/
def zS (c : Dev nD) : S16x36992.Idx → Elt F .f32 := zbuf (in1 m c) (in2 m c) (in3 m c) (in4 m c) (in5 m c)

/-- The invariant before point `n`: at the start the scratch buffers hold anything, afterwards the features, the
    starts and the sizes. -/
def PhiN (c : Dev nD) : ℕ → sProp 𝕄
  | 0 => Pipeline.ΦA spec0 c
  | _ + 1 => iprop(owns (c : Thread nD τ) (Memref.whole cc0_scratch0) fullShare (zS m c)
      ∗ owns (c : Thread nD τ) (Memref.whole cc0_scratch1) fullShare (tabW (F := F) (in0 m c))
      ∗ owns (c : Thread nD τ) (Memref.whole cc0_scratch2) fullShare (cntW (F := F) (in0 m c))
      ∗ ∃ r, prngReg c r)

/-- The proof data on core `c`: the arrays as the region finds them, the inputs left in place, the two outputs' blocks
    at each point. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => outBlk (grid0.coords t) (zS m c) (tabW (in0 m c)) (cntW (in0 m c))
    | 7 => lfBlk (grid0.coords t) (zS m c) (tabW (in0 m c)) (cntW (in0 m c))
  Φ t := PhiN m c t.val
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m _ rfl (fun _ => rfl) t d
theorem before1 (c : Dev nD) (t : Fin cfg0.N) (d) : (dats m 0 c).before 1 t d = iblk m c 1 t := before0_1_of m _ rfl (fun _ => rfl) t d
theorem before2 (c : Dev nD) (t : Fin cfg0.N) (d) : (dats m 0 c).before 2 t d = iblk m c 2 t := before0_2_of m _ rfl (fun _ => rfl) t d
theorem before3 (c : Dev nD) (t : Fin cfg0.N) (d) : (dats m 0 c).before 3 t d = iblk m c 3 t := before0_3_of m _ rfl (fun _ => rfl) t d
theorem before4 (c : Dev nD) (t : Fin cfg0.N) (d) : (dats m 0 c).before 4 t d = iblk m c 4 t := before0_4_of m _ rfl (fun _ => rfl) t d
theorem before5 (c : Dev nD) (t : Fin cfg0.N) (d) : (dats m 0 c).before 5 t d = iblk m c 5 t := before0_5_of m _ rfl (fun _ => rfl) t d

/-- The invariant at the start, conjunct by conjunct. -/
theorem Phi_zero (c : Dev nD) : (PhiN m c 0 : sProp 𝕄)
    = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ ∃ r, prngReg c r) := by
  show Pipeline.ΦA spec0 c = _
  unfold Pipeline.ΦA
  rw [scopedRest0_eq]; simp only [owns_whole]; try rfl

/-! ## The grid's conditions and the schedule -/

theorem cond_zero : ∀ t : Fin grid0.N, t.val = 0 →
    Scalar.cmpi .ne (Scalar.extui (Scalar.cmpi .eq (BitVec.ofNat 32 (grid0.coords t 0).val) 0#32) : BitVec 32) 0#32 = 1#1
      ∧ (grid0.coords t 0).val = 0 ∧ k0_cond2 (grid0.coords t) = 1#1 ∧ ¬ k0_cond3 (grid0.coords t) = 1#1 := by
  intro t; rcases fin_N0 t with rfl | rfl | rfl <;> decide +kernel

theorem cond_succ : ∀ t : Fin grid0.N, t.val ≠ 0 →
    ¬ Scalar.cmpi .ne (Scalar.extui (Scalar.cmpi .eq (BitVec.ofNat 32 (grid0.coords t 0).val) 0#32) : BitVec 32) 0#32 = 1#1
      ∧ ¬ k0_cond2 (grid0.coords t) = 1#1 ∧ k0_cond3 (grid0.coords t) = 1#1 := by
  intro t; rcases fin_N0 t with rfl | rfl | rfl <;> decide +kernel

theorem idle_zero : ∀ t : Fin cfg0.N, t.val = 0 →
    (idle0 6 (grid0.coords t) = true ∧ (win0 6).flush t = false)
      ∧ (idle0 7 (grid0.coords t) = true ∧ (win0 7).flush t = false) := by
  intro t; rcases fin_N0 t with rfl | rfl | rfl <;> decide +kernel

theorem idle_succ : ∀ t : Fin cfg0.N, t.val ≠ 0 →
    idle0 6 (grid0.coords t) = false ∧ idle0 7 (grid0.coords t) = false := by
  intro t; rcases fin_N0 t with rfl | rfl | rfl <;> decide +kernel

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns at the first point, where the outputs' buffers are left alone. -/
def bodyPost0 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d))
    ∗ (∃ d, owns (c : Thread nD τ) (st0_7 t) fullShare ((dats m 0 c).before 7 t d)))

/-- What it returns at a covariance point. -/
def bodyPost1 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The first point: the scratch buffers filled, the rest left as it was. -/
theorem sound_zero (c : Dev nD) (t : Fin cfg0.N) (ht : t.val = 0) :
    bodyPre m c t ⊢ wp frame (wpE (defs₀ (F := F)) Variants.none c none) Set.univ (bodyAt0 t) (fun _ => bodyPost0 m c t) := by
  obtain ⟨h1, hi, h2, h3⟩ := cond_zero t ht
  obtain rfl : t = t0_0 := Fin.ext ht
  unfold bodyPre bodyPost0 bodyAt0
  rw [show (dats m 0 c).Φ t0_0.castSucc = PhiN m c 0 from rfl, show (dats m 0 c).Φ t0_0.succ = PhiN m c 1 from rfl,
    show (dats m 0 c).owesAt () t0_0.succ = (dats m 0 c).owesAt () t0_0.castSucc from rfl, Phi_zero]
  simp only [before0, before1, before2, before3, before4, before5]
  unfold PhiN
  iintro ⟨⟨⟨HA, HB, HC⟩, Hg⟩, HO, ⟨%d0, H0⟩, ⟨%d1, H1⟩, ⟨%d2, H2⟩, ⟨%d3, H3⟩, ⟨%d4, H4⟩, ⟨%d5, H5⟩, H6, H7⟩
  iapply (runA c (grid0.coords t0_0) h1 hi h2 h3 (win0_0.stage (cfg0.slots t0_0 0)) _ (win0_1.stage (cfg0.slots t0_0 1)) _
    (win0_2.stage (cfg0.slots t0_0 2)) _ (win0_3.stage (cfg0.slots t0_0 3)) _ (win0_4.stage (cfg0.slots t0_0 4)) _
    (win0_5.stage (cfg0.slots t0_0 5)) _ (win0_6.stage (cfg0.slots t0_0 6)) _ (win0_7.stage (cfg0.slots t0_0 7)) _
    (Memref.whole cc0_scratch0) _ (Memref.whole cc0_scratch1) _ (Memref.whole cc0_scratch2) _
    (in0 m c) (in1 m c) (in2 m c) (in3 m c) (in4 m c) (in5 m c))
  isplitl [H0]; · iexact H0
  isplitl [H1]; · iexact H1
  isplitl [H2]; · iexact H2
  isplitl [H3]; · iexact H3
  isplitl [H4]; · iexact H4
  isplitl [H5]; · iexact H5
  isplitl [HA]; · iexact HA
  isplitl [HB]; · iexact HB
  isplitl [HC]; · iexact HC
  iintro ⟨H0, H1, H2, H3, H4, H5, HA, HB, HC⟩
  isplitl [HA HB HC Hg]
  · isplitl [HA]; · iexact HA
    isplitl [HB]; · iexact HB
    isplitl [HC]; · iexact HC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A covariance point: the two output blocks filled, the rest left as it was. -/
theorem sound_succ (c : Dev nD) (t : Fin cfg0.N) (ht : t.val ≠ 0) :
    bodyPre m c t ⊢ wp frame (wpE (defs₀ (F := F)) Variants.none c none) Set.univ (bodyAt0 t) (fun _ => bodyPost1 m c t) := by
  obtain ⟨h1, h2, h3⟩ := cond_succ t ht
  obtain ⟨n, hn⟩ : ∃ n, t.val = n + 1 := ⟨t.val - 1, by omega⟩
  unfold bodyPre bodyPost1 bodyAt0
  rw [show (dats m 0 c).Φ t.castSucc = PhiN m c (n + 1) from congrArg (PhiN m c) hn, show (dats m 0 c).Φ t.succ = PhiN m c (t.val + 1) from rfl,
    show (dats m 0 c).owesAt () t.succ = (dats m 0 c).owesAt () t.castSucc from rfl]
  simp only [before0, before1, before2, before3, before4, before5]
  unfold PhiN
  iintro ⟨⟨HA, HB, HC, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (runB (tabW (in0 m c)) (cntW (in0 m c)) (zS m c) c (grid0.coords t) h1 h2 h3 (tabW_le (in0 m c))
    (win0_0.stage (cfg0.slots t 0)) _ (win0_1.stage (cfg0.slots t 1)) _
    (win0_2.stage (cfg0.slots t 2)) _ (win0_3.stage (cfg0.slots t 3)) _ (win0_4.stage (cfg0.slots t 4)) _
    (win0_5.stage (cfg0.slots t 5)) _ (win0_6.stage (cfg0.slots t 6)) _ (win0_7.stage (cfg0.slots t 7)) _
    (Memref.whole cc0_scratch0) _ (Memref.whole cc0_scratch1) _ (Memref.whole cc0_scratch2) _)
  isplitl [H6]; · iexists _; iexact H6
  isplitl [H7]; · iexists _; iexact H7
  isplitl [HA]; · iexact HA
  isplitl [HB]; · iexact HB
  isplitl [HC]; · iexact HC
  iintro ⟨H6, H7, HA, HB, HC⟩
  isplitl [HA HB HC Hg]
  · isplitl [HA]; · iexact HA
    isplitl [HB]; · iexact HB
    isplitl [HC]; · iexact HC
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  by_cases ht : t.val = 0
  · obtain ⟨⟨h6, g6⟩, h7, g7⟩ := idle_zero t ht
    exact triple_restated (sound_zero m c t ht) rfl .rfl fun _ => by
      simp only [h6, g6, h7, g7]
      exact .rfl
  · obtain ⟨h6, h7⟩ := idle_succ t ht
    exact triple_restated (sound_succ m c t ht) rfl .rfl fun _ => by
      simp only [h6, h7]
      exact .rfl

/-! ## The launch -/

/-- At the end the scratch buffers hold something. -/
theorem Phi_last (c : Dev nD) : (dats (F := F) m 0 c).Φ (Fin.last cfg0.N) ⊢ Pipeline.ΦA spec0 c := by
  have e : (dats (F := F) m 0 c).Φ (Fin.last cfg0.N) = PhiN m c (2 + 1) := congrArg (PhiN m c) N_0
  have e0 : (Pipeline.ΦA spec0 c : sProp 𝕄) = _ := Phi_zero m c
  rw [e, e0]
  unfold PhiN
  iintro ⟨HA, HB, HC, Hg⟩
  isplitl [HA HB HC]
  · isplitl [HA]; · iexists _; iexact HA
    isplitl [HB]; · iexists _; iexact HB
    iexists _; iexact HC
  iexact Hg

set_option backward.isDefEq.respectTransparency.types false in
/-- Every fair execution of @main ends, with every array at what the grid and the host lines leave in it and every
    semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := Phi_last m) (hQ' := fun _ h => h)

/-- The arguments keep their contents. -/
theorem args_kept (r : PUnit × MemSt nD τ sig (Elt F)) (h : Pipeline.FramePost cfgs (dats m) 0 (Pipeline.afterTail₀ cfgs (dats m) 0 (V0 m) [hostOps1]) r)
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have k := fun a ha h' => (h c).2 a (Pipeline.mem_restRefs_of a ha h')
  exact ⟨(k main_arg0 (by decide) (by decide)).trans (W_main_arg0 m _ c), (k main_arg1 (by decide) (by decide)).trans (W_main_arg1 m _ c),
    (k main_arg2 (by decide) (by decide)).trans (W_main_arg2 m _ c), (k main_arg3 (by decide) (by decide)).trans (W_main_arg3 m _ c),
    (k main_arg4 (by decide) (by decide)).trans (W_main_arg4 m _ c), (k main_arg5 (by decide) (by decide)).trans (W_main_arg5 m _ c)⟩

end Cert.KernelIdeal.Hand
end
-- ==== Proof.Ids.lean ====
/- Sorted group ids: where each group starts, how many entries it has. -/
module

public import Idealize.ShloMosaic.Lib.ReduceAll
public import Idealize.ShloMosaic.Lib.Pointwise

@[expose] public section

namespace Cert.Shared

/-- The ids are sorted, below 16, and no group is longer than 4096. -/
structure Sorted (ids : Fin 32768 → ℕ) : Prop where
  mono : ∀ s t : Fin 32768, s ≤ t → ids s ≤ ids t
  lt16 : ∀ t, ids t < 16
  gap : ∀ (t : ℕ) (h : t + 4096 < 32768), ids ⟨t, by omega⟩ < ids ⟨t + 4096, h⟩

/-- How many entries have an id below `b`. -/
def nBelow (ids : Fin 32768 → ℕ) (b : ℕ) : ℕ := (Finset.univ.filter fun t => ids t < b).card

/-- How many entries group `b` has. -/
def nAt (ids : Fin 32768 → ℕ) (b : ℕ) : ℕ := nBelow ids (b + 1) - nBelow ids b

variable {ids : Fin 32768 → ℕ}

theorem nBelow_le (ids : Fin 32768 → ℕ) (b : ℕ) : nBelow ids b ≤ 32768 := (Finset.card_filter_le _ _).trans (by simp)

theorem nBelow_mono (ids : Fin 32768 → ℕ) {a b : ℕ} (h : a ≤ b) : nBelow ids a ≤ nBelow ids b :=
  Finset.card_le_card fun t ht => by
    rw [Finset.mem_filter] at ht ⊢
    exact ⟨ht.1, ht.2.trans_le h⟩

theorem nBelow_zero (ids : Fin 32768 → ℕ) : nBelow ids 0 = 0 := by simp [nBelow]

theorem nBelow_add_nAt (ids : Fin 32768 → ℕ) (b : ℕ) : nBelow ids b + nAt ids b = nBelow ids (b + 1) :=
  Nat.add_sub_cancel' (nBelow_mono ids (Nat.le_succ b))

/-- Group `b`'s size is the number of entries whose id is `b`. -/
theorem card_eq_nAt (ids : Fin 32768 → ℕ) (b : ℕ) : (Finset.univ.filter fun t => ids t = b).card = nAt ids b := by
  have e : (Finset.univ.filter fun t => ids t < b + 1) = (Finset.univ.filter fun t => ids t < b) ∪ (Finset.univ.filter fun t => ids t = b) := by
    ext t; simp only [Finset.mem_filter, Finset.mem_union, Finset.mem_univ, true_and]; omega
  have d : Disjoint (Finset.univ.filter fun t => ids t < b) (Finset.univ.filter fun t => ids t = b) :=
    Finset.disjoint_filter.mpr fun t _ h h' => by omega
  have h : nBelow ids (b + 1) = nBelow ids b + (Finset.univ.filter fun t => ids t = b).card := by
    unfold nBelow; rw [e, Finset.card_union_of_disjoint d]
  unfold nAt
  omega

/-- The sizes of the groups before `b` add up to where `b` starts. -/
theorem sum_nAt (ids : Fin 32768 → ℕ) (b : ℕ) : ((List.range b).map (nAt ids)).sum = nBelow ids b := by
  induction b with
  | zero => rw [nBelow_zero]; rfl
  | succ b ih => rw [List.range_succ, List.map_append, List.sum_append, ih]; simpa using nBelow_add_nAt ids b

namespace Sorted

theorem nBelow_16 (h : Sorted ids) : nBelow ids 16 = 32768 := by
  unfold nBelow
  rw [Finset.filter_true_of_mem fun t _ => h.lt16 t]; simp

/-- An entry's id is below `b` exactly when it stands before the start of `b`. -/
theorem lt_iff (h : Sorted ids) (t : Fin 32768) (b : ℕ) : ids t < b ↔ t.val < nBelow ids b := by
  constructor
  · intro ht
    have : (Finset.Iic t).card ≤ nBelow ids b := Finset.card_le_card fun s hs => by
      rw [Finset.mem_filter]
      exact ⟨Finset.mem_univ _, (h.mono s t (Finset.mem_Iic.mp hs)).trans_lt ht⟩
    rw [Fin.card_Iic] at this
    omega
  · intro ht
    by_contra hb
    have : nBelow ids b ≤ (Finset.Iio t).card := Finset.card_le_card fun s hs => by
      rw [Finset.mem_filter] at hs
      rw [Finset.mem_Iio]
      by_contra hst
      have := h.mono t s (not_lt.mp hst)
      omega
    rw [Fin.card_Iio] at this
    omega

/-- An entry is of group `b` exactly when it stands in the group's run. -/
theorem eq_iff (h : Sorted ids) (t : Fin 32768) (b : ℕ) : ids t = b ↔ nBelow ids b ≤ t.val ∧ t.val < nBelow ids b + nAt ids b := by
  have h1 := h.lt_iff t b
  have h2 := h.lt_iff t (b + 1)
  rw [nBelow_add_nAt]
  omega

theorem nAt_le (h : Sorted ids) (b : ℕ) : nAt ids b ≤ 4096 := by
  by_contra hc
  have hs := nBelow_add_nAt ids b
  have hl := nBelow_le ids (b + 1)
  have hg := h.gap (nBelow ids b) (by omega)
  have h1 := (h.lt_iff ⟨nBelow ids b, by omega⟩ b).not.mpr (by dsimp only; omega)
  have h2 := (h.lt_iff ⟨nBelow ids b + 4096, by omega⟩ (b + 1)).mpr (by dsimp only; omega)
  omega

end Sorted

end Cert.Shared
-- ==== Proof.Pre.lean ====
/- What the precondition says of the ids. -/
module

public import proofs.«01_k».proof.Proof.Ids
public import proofs.«01_k».proof.Proof.Gen.Pre_sorted_groups
public import Idealize.ShloMosaic.Lib.ReduceAll
public import Idealize.ShloMosaic.Lib.Pointwise
public import Idealize.ShloMosaic.Lib.ValueIdxCore
public import Idealize.ShloMosaic.Lib.Affine

@[expose] public section

set_option maxRecDepth 16384

noncomputable section

namespace Cert.Shared

open Idealize.ShloMosaic Cert.Pre_sorted_groups

variable {F : FTy → Type} [FloatOps F]

/-- The value of entry `t`'s id. -/
def idsOf (x : IVec ⟨1, ![32768]⟩ 32) (t : Fin 32768) : ℕ := (x (ix1 t)).toNat

/-- Under the precondition the ids are sorted, below 16, and no group is longer than 4096. -/
theorem sorted_of_pre (x0 : FVec F S32768x4 .f32) (x1 : IVec S32768 32) (x2 : FVec F S4x64 .f32) (x3 : FVec F S64 .f32) (x4 : FVec F S64x16 .f32)
    (x5 : FVec F S16 .f32) (h : Cert.Pre_sorted_groups.fn (F := F) x0 x1 x2 x3 x4 x5 = fun _ => 1#1) : Sorted (idsOf x1) := by
  have h0 := congrFun h (ix0 : S_.Idx)
  unfold Cert.Pre_sorted_groups.fn at h0
  obtain ⟨h123, h4⟩ := IntOp.andi_eq_one.mp h0
  obtain ⟨h12, h3⟩ := IntOp.andi_eq_one.mp h123
  obtain ⟨h1, h2⟩ := IntOp.andi_eq_one.mp h12
  have hs : Subsingleton S_.Idx := ⟨fun a b => funext fun k => k.elim0⟩
  have g1 := fun t : Fin 32768 => Host.reduce_andi_all _ _ _ _ _ h1 (ix1 t)
  have g2 := fun t : Fin 32768 => Host.reduce_andi_all _ _ _ _ _ h2 (ix1 t)
  have g3 := fun t : Fin 32767 => Host.reduce_andi_all _ _ _ _ _ h3 (ix1 t)
  have g4 := fun t : Fin 28672 => Host.reduce_andi_all _ _ _ _ _ h4 (ix1 t)
  pointwise at g1 g2 g3 g4
  clear h h0 h123 h4 h12 h3 h1 h2
  have hz : (0#32 : BitVec 32).toInt = 0 := rfl
  have h16 : (16#32 : BitVec 32).toInt = 16 := rfl
  have nonneg : ∀ t, (x1 (ix1 t)).toInt = (idsOf x1 t : ℤ) := fun t => by
    have h0 := IntOp.cmpi_sge.mp (g1 t)
    rw [hz] at h0
    unfold idsOf
    have := BitVec.toInt_eq_toNat_cond (x1 (ix1 t))
    have hlt := (x1 (ix1 t)).isLt
    split at this <;> omega
  have step : ∀ (t : ℕ) (h : t + 1 < 32768), idsOf x1 ⟨t, by omega⟩ ≤ idsOf x1 ⟨t + 1, h⟩ := fun t h => by
    have h3 := IntOp.cmpi_sle.mp (g3 ⟨t, by omega⟩)
    have e : (⟨1 + t, by omega⟩ : Fin 32768) = ⟨t + 1, h⟩ := Fin.ext (Nat.add_comm 1 t)
    simp only [e, nonneg] at h3
    exact_mod_cast h3
  refine ⟨?_, fun t => ?_, fun t h => ?_⟩
  · have far : ∀ (k s : ℕ) (h : s + k < 32768), idsOf x1 ⟨s, by omega⟩ ≤ idsOf x1 ⟨s + k, h⟩ := by
      intro k
      induction k with
      | zero => exact fun s h => le_refl _
      | succ k ih => exact fun s h => (ih s (by omega)).trans (step (s + k) h)
    intro s t hst
    have e : t = ⟨s.val + (t.val - s.val), by omega⟩ := Fin.ext (by have : s.val ≤ t.val := hst; simp only; omega)
    rw [e]
    exact far _ _ _
  · have h2 := IntOp.cmpi_slt.mp (g2 t)
    rw [nonneg, h16] at h2
    exact_mod_cast h2
  · have h4 := IntOp.cmpi_slt.mp (g4 ⟨t, by omega⟩)
    have e : (⟨4096 + t, by omega⟩ : Fin 32768) = ⟨t + 4096, h⟩ := Fin.ext (Nat.add_comm 4096 t)
    simp only [e, nonneg] at h4
    exact_mod_cast h4

end Cert.Shared
-- ==== Proof.Spec.lean ====
/- The values both programs compute, over exact numbers. -/
module

public import proofs.«01_k».proof.Proof.Ids
public import Idealize.ShloMosaic.Lib.Pointwise
public import Idealize.ShloMosaic.PureOps.Ideal.Laws
public import Idealize.ShloMosaic.PureOps.IdealRules

@[expose] public section

noncomputable section

namespace Cert.Shared

open Idealize.ShloMosaic

/-- Feature `d` of entry `t`: the two-layer network's value. -/
def feat (x0 : FVec Ideal ⟨2, ![32768, 4]⟩ .f32) (x2 : FVec Ideal ⟨2, ![4, 64]⟩ .f32) (x3 : FVec Ideal ⟨1, ![64]⟩ .f32) (x4 : FVec Ideal ⟨2, ![64, 16]⟩ .f32)
    (x5 : FVec Ideal ⟨1, ![16]⟩ .f32) (t : Fin 32768) (d : Fin 16) : EReal :=
  ∑ h, max (∑ k, x0 (ix2 t k) * x2 (ix2 k h) + x3 (ix1 h)) 0 * x4 (ix2 h d) + x5 (ix1 d)

/-- An array's entry as a number, 0 outside the array. -/
def ext (X : Fin 32768 → Fin 16 → EReal) (t : ℕ) (d : Fin 16) : EReal := if h : t < 32768 then X ⟨t, h⟩ d else 0

/-- Row `n` of group `b`: the row of the group's entry `n`, 0 past the group's last. -/
def rowOf (ids : Fin 32768 → ℕ) (X : Fin 32768 → Fin 16 → EReal) (b : ℕ) (n : ℕ) (d : Fin 16) : EReal :=
  if n < nAt ids b then ext X (nBelow ids b + n) d else 0

/-- A count as an exact number. -/
def cntE (c : ℕ) : EReal := FloatOps.sitofp (F := Ideal) .f32 (BitVec.ofNat 32 c)

/-- Column `d`'s mean over the `c` rows of a group. -/
def meanOf (R : ℕ → Fin 16 → EReal) (c : ℕ) (d : Fin 16) : EReal := Ideal.div (∑ n : Fin 4096, if n.val < c then R n.val d else 0) (max (cntE c) 1)

/-- The group's rows less the mean, 0 past the group's last. -/
def cenOf (R : ℕ → Fin 16 → EReal) (c : ℕ) (n : ℕ) (d : Fin 16) : EReal := if n < c then R n d - meanOf R c d else 0

/-- The covariance of columns `d` and `e`. -/
def covOf (R : ℕ → Fin 16 → EReal) (c : ℕ) (d e : Fin 16) : EReal :=
  Ideal.div (∑ n : Fin 4096, cenOf R c n.val d * cenOf R c n.val e) (max (cntE c - 1) 1)

/-- The signed square root. -/
def powOf (v : EReal) : EReal := Ideal.sign v * Ideal.sqrt (FloatOps.absf (F := Ideal) (φ := .f32) v + Ideal.ofBits .f32 0x2B8CBCCC#32)

/-- A group's pooled entry: the signed square root of the covariance, over its norm. -/
def outOf (R : ℕ → Fin 16 → EReal) (c : ℕ) (d e : Fin 16) : EReal :=
  Ideal.div (powOf (covOf R c d e))
    (max (Ideal.sqrt (∑ x, ∑ y, powOf (covOf R c x y) * powOf (covOf R c x y))) (Ideal.ofBits .f32 0x2B8CBCCC#32))

/-- A sum over the part of a longer range that a shift by `ph` takes to the first `c` places. -/
theorem sum_shift (g : ℕ → EReal) (ph c : ℕ) (h : ph + c ≤ 4224) (hc : c ≤ 4096) :
    (∑ j : Fin 4224, if ph ≤ j.val ∧ j.val < ph + c then g (j.val - ph) else 0) = ∑ n : Fin 4096, if n.val < c then g n.val else 0 := by
  rw [Fin.sum_univ_eq_sum_range (fun j => if ph ≤ j ∧ j < ph + c then g (j - ph) else 0) 4224,
    Fin.sum_univ_eq_sum_range (fun n => if n < c then g n else 0) 4096, ← Finset.sum_filter, ← Finset.sum_filter]
  have e1 : (Finset.range 4224).filter (fun j => ph ≤ j ∧ j < ph + c) = Finset.Ico ph (ph + c) := by
    ext j; simp only [Finset.mem_filter, Finset.mem_range, Finset.mem_Ico]; omega
  have e2 : (Finset.range 4096).filter (fun n => n < c) = Finset.range c := by
    ext j; simp only [Finset.mem_filter, Finset.mem_range]; omega
  rw [e1, e2, Finset.sum_Ico_eq_sum_range, Nat.add_sub_cancel_left]
  exact Finset.sum_congr rfl fun n _ => by rw [Nat.add_sub_cancel_left]

/-- A sum over 256 places is the sum over their 16 rows and columns. -/
theorem sum_256 (f : Fin 16 → Fin 16 → EReal) :
    (∑ x : Fin 256, f ⟨x.val / 16, by omega⟩ ⟨x.val % 16, by omega⟩) = ∑ a, ∑ b, f a b := by
  rw [← Fintype.sum_prod_type']
  refine (Fintype.sum_equiv (finProdFinEquiv (m := 16) (n := 16)) _ _ fun p => ?_).symm
  have h : (finProdFinEquiv (m := 16) (n := 16) p).val = p.2.val + 16 * p.1.val := rfl
  refine congrArg₂ f (Fin.ext ?_) (Fin.ext ?_)
  · show p.1.val = (finProdFinEquiv (m := 16) (n := 16) p).val / 16
    omega
  · show p.2.val = (finProdFinEquiv (m := 16) (n := 16) p).val % 16
    omega

/-- A one-bit word as an exact number. -/
theorem uitofp_bit (b : BitVec 1) : (FloatOps.uitofp (F := Ideal) .f32 b : EReal) = if b = 1#1 then 1 else 0 := by
  rcases BitVec.eq_zero_or_eq_one b with rfl | rfl
  · show (((0#1 : BitVec 1).toNat : ℝ) : EReal) = _
    simp
  · show (((1#1 : BitVec 1).toNat : ℝ) : EReal) = _
    simp

theorem sitofp_bit (b : BitVec 1) : (FloatOps.sitofp (F := Ideal) .f32 (BitVec.setWidth 32 b) : EReal) = if b = 1#1 then 1 else 0 := by
  rcases BitVec.eq_zero_or_eq_one b with rfl | rfl
  · show (((BitVec.setWidth 32 (0#1 : BitVec 1)).toInt : ℝ) : EReal) = _
    simp
  · show (((BitVec.setWidth 32 (1#1 : BitVec 1)).toInt : ℝ) : EReal) = _
    simp

/-- A sign picked by two comparisons is the sign. -/
theorem sign_pick (v : EReal) :
    (if 0 < FloatOps.absf (F := Ideal) (φ := .f32) v then (if v < 0 then Ideal.ofBits .f32 0xBF800000#32 else 1) else v) = Ideal.sign v := by
  have hn : Ideal.ofBits .f32 0xBF800000#32 = -1 := IdealRules.sign_bit.ideal_negOnePat .f32
  have ha : FloatOps.absf (F := Ideal) (φ := .f32) v = max v (-v) := rfl
  rw [ha, hn]
  rcases lt_trichotomy v 0 with h | h | h
  · rw [if_pos, if_pos h, Ideal.sign_of_neg h]
    exact lt_max_of_lt_right (EReal.neg_lt_neg_iff.mpr h |>.trans_eq' (by simp))
  · subst h
    simp [Ideal.sign_zero]
  · rw [if_pos (lt_max_of_lt_left h), if_neg (not_lt.mpr h.le), Ideal.sign_of_pos h]

end Cert.Shared
-- ==== Proof.RefIds.lean ====
/- The reference's integer values: the number of entries of each group, where it starts, the place of an entry in its group. -/
module

public import proofs.«01_k».proof.Proof.Ids
public import proofs.«01_k».proof.Proof.Spec
public import proofs.«01_k».proof.Proof.Pre
public import proofs.«01_k».proof.Proof.Gen.ReferenceIdeal.Run
public import Idealize.ShloMosaic.Lib.Routing.OpsPair
public import Idealize.ShloMosaic.Lib.Routing.OpsSet
public import Idealize.ShloMosaic.Lib.StableHlo.Predicate
public import Idealize.ShloMosaic.Lib.Pointwise

@[expose] public section

set_option maxRecDepth 16384

noncomputable section

namespace Cert.ReferenceIdeal.Hand

open Idealize.ShloMosaic Idealize.ShloMosaic.Routing Cert.ReferenceIdeal Cert.ReferenceIdeal.Gen Cert.ReferenceIdeal.Value Cert.Shared

/-- Count update `t` lands on entry `b` when its index word is `b`. -/
theorem count_lands (idx : IVec S32768x1 32) (t : Fin 32768) (b : Fin 16) :
    scatter_S16_S32768x1_S32768_n_0_0_1.resultIdx? (ix1 t) idx = some (ix1 b) ↔ (idx (ix2 t 0)).toInt = b.val := by
  rw [resultIdx?_eq_some]
  have e : scatter_S16_S32768x1_S32768_n_0_0_1.start (ix1 t) idx 0 = (idx (ix2 t 0)).toInt := by
    refine congrArg (fun i => (idx i).toInt) (funext fun a => ?_)
    fin_cases a <;> rfl
  have w : scatter_S16_S32768x1_S32768_n_0_0_1.window (ix1 t) 0 = 0 := rfl
  constructor
  · intro h
    have := h 0
    rw [e, w] at this
    simpa using this
  · intro h a
    obtain rfl : a = 0 := Subsingleton.elim _ _
    rw [e, w, h]
    simp

/-- Row update `(t, d)` lands on `(b, n, d')` when its index words are `b` and `n` and `d = d'`. -/
theorem row_lands (idx : IVec S32768x2 32) (t : Fin 32768) (d d' : Fin 16) (b : Fin 16) (n : Fin 4096) :
    scatter_S16x4096x16_S32768x2_S32768x16_1_01_01_1.resultIdx? (ix2 t d) idx = some (ix3 b n d')
      ↔ (idx (ix2 t 0)).toInt = b.val ∧ (idx (ix2 t 1)).toInt = n.val ∧ d = d' := by
  rw [resultIdx?_eq_some]
  have e0 : scatter_S16x4096x16_S32768x2_S32768x16_1_01_01_1.start (ix2 t d) idx 0 = (idx (ix2 t 0)).toInt := by
    refine congrArg (fun i => (idx i).toInt) (funext fun a => ?_)
    fin_cases a <;> rfl
  have e1 : scatter_S16x4096x16_S32768x2_S32768x16_1_01_01_1.start (ix2 t d) idx 1 = (idx (ix2 t 1)).toInt := by
    refine congrArg (fun i => (idx i).toInt) (funext fun a => ?_)
    fin_cases a <;> rfl
  have e2 : scatter_S16x4096x16_S32768x2_S32768x16_1_01_01_1.start (ix2 t d) idx 2 = 0 := rfl
  have w0 : scatter_S16x4096x16_S32768x2_S32768x16_1_01_01_1.window (ix2 t d) 0 = 0 := rfl
  have w1 : scatter_S16x4096x16_S32768x2_S32768x16_1_01_01_1.window (ix2 t d) 1 = 0 := rfl
  have w2 : scatter_S16x4096x16_S32768x2_S32768x16_1_01_01_1.window (ix2 t d) 2 = d.val := rfl
  constructor
  · intro h
    have h0 := h 0
    have h1 := h 1
    have h2 := h 2
    rw [e0, w0] at h0
    rw [e1, w1] at h1
    rw [e2, w2] at h2
    exact ⟨by simpa using h0, by simpa using h1, Fin.ext (by simpa using h2)⟩
  · rintro ⟨h0, h1, rfl⟩ a
    match a with
    | ⟨0, _⟩ => exact (congrArg₂ _ e0 (congrArg _ w0)).trans (by rw [h0]; simp)
    | ⟨1, _⟩ => exact (congrArg₂ _ e1 (congrArg _ w1)).trans (by rw [h1]; simp)
    | ⟨2, _⟩ => exact (congrArg₂ _ e2 (congrArg _ w2)).trans (by simp)

/-- Counting the places of a list where `hit` holds. -/
theorem countP_eq_card {M : ℕ} (hit : Fin M → Prop) [DecidablePred hit] :
    (List.finRange M).countP (fun n => decide (hit n)) = (Finset.univ.filter hit).card := by
  rw [List.countP_eq_length_filter]
  rfl

/-- Adding 1 at each scattered position counts the updates that land. -/
theorem scatter_count {M N : ℕ} {si : Shape} (d : ScatterDims (shape1 N) si (shape1 M)) (x0 : IVec (shape1 N) 32) (idx : IVec si 32)
    (upd : IVec (shape1 M) 32) (b : Fin N) (h0 : x0 (ix1 b) = 0#32) (hu : ∀ t, upd t = 1#32) :
    Host.scatter d IntOp.addi x0 idx upd (ix1 b)
      = BitVec.ofNat 32 (Finset.univ.filter fun t : Fin M => d.resultIdx? (ix1 t) idx = some (ix1 b)).card := by
  classical
  rw [scatter_at]
  refine (foldl_count (fun (r : Unit → BitVec 32) n => fun _ =>
    if d.resultIdx? ((shape1 M).rowMajor.symm n) idx = some (ix1 b) then IntOp.addi (r ()) (upd ((shape1 M).rowMajor.symm n)) else r ()) ()
    (fun n => decide (d.resultIdx? ((shape1 M).rowMajor.symm n) idx = some (ix1 b))) (fun r n => ?_) (List.finRange _) (fun _ => x0 (ix1 b)) 0 h0 |> fun e => ?_)
  rotate_left
  · simp only [hu, decide_eq_true_eq]
  · have q := List.foldl_hom (fun r : Unit → BitVec 32 => r ()) (l := List.finRange (shape1 M).numel) (init := fun _ => x0 (ix1 b))
      (g₁ := fun (r : Unit → BitVec 32) n => fun _ =>
        if d.resultIdx? ((shape1 M).rowMajor.symm n) idx = some (ix1 b) then IntOp.addi (r ()) (upd ((shape1 M).rowMajor.symm n)) else r ())
      (g₂ := fun a n => if d.resultIdx? ((shape1 M).rowMajor.symm n) idx = some (ix1 b) then IntOp.addi a (upd ((shape1 M).rowMajor.symm n)) else a)
      (fun r n => rfl)
    rw [q, e, Nat.zero_add, countP_eq_card (fun n => d.resultIdx? ((shape1 M).rowMajor.symm n) idx = some (ix1 b))]
    congr 1
    refine Finset.card_bij (fun n _ => n.cast (numel1 M)) (fun n hn => ?_) (fun a _ c _ h => by simpa using h) fun t ht => ?_
    · rw [Finset.mem_filter] at hn ⊢
      exact ⟨Finset.mem_univ _, by rw [← hn.2, symm1]; rfl⟩
    · rw [Finset.mem_filter] at ht
      exact ⟨t.cast (numel1 M).symm, by rw [Finset.mem_filter]; exact ⟨Finset.mem_univ _, by rw [← ht.2, symm1]; rfl⟩, rfl⟩

/-- The ids among the reference's arguments. -/
abbrev idArg (V : Valuation τ sig (Elt Ideal)) : IVec S32768 32 := V (Proc.devRef .tc main_arg1)

/-- The same as numbers. -/
abbrev idNat (V : Valuation τ sig (Elt Ideal)) : Fin 32768 → ℕ := idsOf (idArg V)

variable {V : Valuation τ sig (Elt Ideal)}

/-- A sorted array's id word, as a word of its value. -/
theorem id_word (hs : Sorted (idNat V)) (t : Fin 32768) : idArg V (ix1 t) = BitVec.ofNat 32 (idNat V t) := by
  unfold idNat idsOf
  simp

/-- The start-index column the reference makes of the ids: the ids themselves, none being negative. -/
theorem wrapped_id (hs : Sorted (idNat V)) (t : Fin 32768) :
    select (cmpi .slt (idArg V) (broadcastInDim S32768 ![] bcast_S_S32768 (constantI S_ 32 0#32)))
      (addi (idArg V) (broadcastInDim S32768 ![] bcast_S_S32768 (constantI S_ 32 16#32))) (idArg V) (ix1 t) = BitVec.ofNat 32 (idNat V t) := by
  have h := hs.lt16 t
  exact (wrap_of_lt _ _ (lt_trans h (by decide))).trans (id_word hs t)

theorem v10_eq (hs : Sorted (idNat V)) : res_main_v10 V = idArg V := by
  unfold res_main_v10
  funext i
  obtain ⟨t, rfl⟩ : ∃ t : Fin 32768, i = ix1 t := ⟨i 0, (eq_ix1 i)⟩
  have h := hs.lt16 t
  show IntOp.maxsi 0#32 (idArg V (ix1 t)) = idArg V (ix1 t)
  rw [id_word hs t]
  unfold IntOp.maxsi
  rw [if_neg]
  rw [BitVec.slt_iff_toInt_lt, StableHlo.Predicate.toInt_ofNat_small _ (lt_trans h (by decide))]
  exact not_lt.mpr (Int.natCast_nonneg _)

/-- Entry `t` of an array kept as a column. -/
theorem col_at {w : ℕ} (x : IVec S32768 w) (t : Fin 32768) : broadcastInDim S32768x1 ![0] bcast_S32768_S32768x1_0 x (ix2 t 0) = x (ix1 t) := by
  pointwise

/-- Entry `b` of the counts is the number of entries of group `b`. -/
theorem v18_at (hs : Sorted (idNat V)) (b : Fin 16) : res_main_v18 V (ix1 b) = BitVec.ofNat 32 (nAt (idNat V) b.val) := by
  unfold res_main_v18
  rw [v10_eq hs]
  refine (scatter_count _ _ _ _ b rfl fun _ => rfl).trans ?_
  rw [← card_eq_nAt]
  refine congrArg (fun s : Finset (Fin 32768) => BitVec.ofNat 32 s.card) (Finset.ext fun t => ?_)
  rw [Finset.mem_filter, Finset.mem_filter]
  refine and_congr_right fun _ => ?_
  refine (count_lands _ t b).trans ?_
  have h := hs.lt16 t
  have e := wrapped_id hs t
  rw [(col_at _ t).trans e, StableHlo.Predicate.toInt_ofNat_small _ (lt_trans h (by decide))]
  exact Int.ofNat_inj

/-- Where group `b` starts, as the reference computes it. -/
theorem start_at (hs : Sorted (idNat V)) (b : Fin 16) :
    concatenate S16 0 [⟨S1, (broadcastInDim S1 ![] bcast_S_S1 (constantI S_ 32 0#32))⟩, ⟨S15, (extractStridedSlice S15 ![0] (Host.reduceWindow IntOp.addi ![16] ![1] ![15] ![0] (res_main_v18 V) (broadcastInDim S_ ![] bcast_S_S_ (constantI S_ 32 0#32)) reduceWindows_S16_S16_w16s1p15_0 h_S_) slices_S16_S15_0)⟩] concatenates_S1_S15_S16_d0 (ix1 b)
      = BitVec.ofNat 32 (nBelow (idNat V) b.val) := by
  have hc : ∀ j : Fin 16, Host.reduceWindow IntOp.addi ![16] ![1] ![15] ![0] (res_main_v18 V) (broadcastInDim S_ ![] bcast_S_S_ (constantI S_ 32 0#32)) reduceWindows_S16_S16_w16s1p15_0 h_S_ (ix1 j)
      = BitVec.ofNat 32 (nBelow (idNat V) (j.val + 1)) := fun j => by
    rw [← sum_nAt]
    exact cumsum1 rfl _ _ (v18_at hs) _ rfl _ _ j
  generalize Host.reduceWindow IntOp.addi ![16] ![1] ![15] ![0] (res_main_v18 V) (broadcastInDim S_ ![] bcast_S_S_ (constantI S_ 32 0#32)) reduceWindows_S16_S16_w16s1p15_0 h_S_ = y at hc ⊢
  pointwise
  split
  · next h => rw [show b.val = 0 by omega, nBelow_zero]
  · next h =>
    rw [hc]
    congr 2
    show b.val - 1 + 1 = b.val
    omega

/-- The place of entry `t` in its group. -/
theorem v31_at (hs : Sorted (idNat V)) (t : Fin 32768) : res_main_v31 V (ix1 t) = BitVec.ofNat 32 (t.val - nBelow (idNat V) (idNat V t)) := by
  have hlt := hs.lt16 t
  have e : ∀ (x : IVec S16 32) (idx : IVec S32768x1 32), idx (ix2 t 0) = BitVec.ofNat 32 (idNat V t) →
      Host.gather gather_S16_S32768x1_S32768_n_0_n_n_0_1_1 x idx (ix1 t) = x (ix1 ⟨idNat V t, hlt⟩) := fun x idx h => by
    have g := StableHlo.Predicate.gather_take gather_S16_S32768x1_S32768_n_0_n_n_0_1_1 rfl rfl rfl rfl x idx t (by decide)
    have h0 : idx (StableHlo.Predicate.ixP t) = BitVec.ofNat 32 (idNat V t) := by
      rw [← h]; refine congrArg idx (funext fun a => ?_); fin_cases a <;> rfl
    have h1 : (Shape.Idx.ofFin t : S32768.Idx) = ix1 t := by funext a; obtain rfl : a = 0 := Subsingleton.elim _ _; rfl
    rw [h1] at g
    refine g.trans (congrArg x ?_)
    funext a
    obtain rfl : a = 0 := Subsingleton.elim _ _
    refine Fin.ext ?_
    show min (idx (StableHlo.Predicate.ixP t)).toInt.toNat (16 - 1) = idNat V t
    rw [h0, StableHlo.Predicate.toInt_ofNat_small _ (lt_trans hlt (by decide))]
    omega
  unfold res_main_v31
  refine (congrArg (IntOp.subi (BitVec.ofNat 32 t.val)) ((e _ _ ((col_at _ t).trans (wrapped_id hs t))).trans (start_at hs _))).trans ?_
  have h1 := (hs.eq_iff t (idNat V t)).mp rfl
  have h2 := t.isLt
  refine BitVec.eq_of_toNat_eq ?_
  show (BitVec.ofNat 32 t.val - BitVec.ofNat 32 _).toNat = _
  rw [BitVec.toNat_sub, BitVec.toNat_ofNat, BitVec.toNat_ofNat, BitVec.toNat_ofNat]
  simp only
  omega

/-- The values the reference scatters, one row per entry. -/
def mlpR (x0 : FVec Ideal S32768x4 .f32) (x2 : FVec Ideal S4x64 .f32) (x3 : FVec Ideal S64 .f32) (x4 : FVec Ideal S64x16 .f32) (x5 : FVec Ideal S16 .f32) :
    FVec Ideal S32768x16 .f32 :=
  addf (Host.dotGeneral dot_S32768x64_S64x16_S32768x16_1_0_0_1_n_n none (maximumf (addf (Host.dotGeneral dot_S32768x4_S4x64_S32768x64_1_0_0_1_n_n none x0 x2) (broadcastInDim S32768x64 ![0, 1] bcast_S1x64_S32768x64_0_1 (broadcastInDim S1x64 ![1] bcast_S64_S1x64_1 x3))) (broadcastInDim S32768x64 ![] bcast_S_S32768x64 (constant S_ .f32 0x00000000#32))) x4) (broadcastInDim S32768x16 ![0, 1] bcast_S1x16_S32768x16_0_1 (broadcastInDim S1x16 ![1] bcast_S16_S1x16_1 x5))

/-- One entry of it. -/
theorem mlpR_at (x0 : FVec Ideal S32768x4 .f32) (x2 : FVec Ideal S4x64 .f32) (x3 : FVec Ideal S64 .f32) (x4 : FVec Ideal S64x16 .f32) (x5 : FVec Ideal S16 .f32)
    (t : Fin 32768) (d : Fin 16) : mlpR x0 x2 x3 x4 x5 (ix2 t d) = feat x0 x2 x3 x4 x5 t d := by
  unfold mlpR feat
  pointwise

/-- The same over the reference's arguments. -/
abbrev mlpV (V : Valuation τ sig (Elt Ideal)) : FVec Ideal S32768x16 .f32 :=
  mlpR (V (Proc.devRef .tc main_arg0)) (V (Proc.devRef .tc main_arg2)) (V (Proc.devRef .tc main_arg3)) (V (Proc.devRef .tc main_arg4)) (V (Proc.devRef .tc main_arg5))

/-- The two columns side by side, read at each. -/
theorem pair_at (x y : IVec S32768x1 32) (t : Fin 32768) :
    concatenate S32768x2 1 [⟨S32768x1, x⟩, ⟨S32768x1, y⟩] concatenates_S32768x1_S32768x1_S32768x2_d1 (ix2 t 0) = x (ix2 t 0)
      ∧ concatenate S32768x2 1 [⟨S32768x1, x⟩, ⟨S32768x1, y⟩] concatenates_S32768x1_S32768x1_S32768x2_d1 (ix2 t 1) = y (ix2 t 0) := by
  constructor <;> pointwise

/-- The second result: row `n` of group `b` is the row of the group's entry `n`, and 0 past the group's last. -/
theorem v46_at (hs : Sorted (idNat V)) (b : Fin 16) (n : Fin 4096) (d : Fin 16) :
    res_main_v46 V (ix3 b n d)
      = if h : n.val < nAt (idNat V) b.val then
          mlpV V (ix2 ⟨nBelow (idNat V) b.val + n.val, by
            have := nBelow_add_nAt (idNat V) b.val
            have := nBelow_le (idNat V) (b.val + 1)
            omega⟩ d)
        else 0 := by
  have w31 : ∀ t : Fin 32768, select (cmpi .slt (res_main_v31 V) (broadcastInDim S32768 ![] bcast_S_S32768 (constantI S_ 32 0#32)))
      (addi (res_main_v31 V) (broadcastInDim S32768 ![] bcast_S_S32768 (constantI S_ 32 4096#32))) (res_main_v31 V) (ix1 t)
        = BitVec.ofNat 32 (t.val - nBelow (idNat V) (idNat V t)) := fun t => by
    refine (wrap_of_lt _ _ ?_).trans (v31_at hs t)
    rw [v31_at hs t, BitVec.toNat_ofNat]
    have := t.isLt
    omega
  have lands : ∀ (t : Fin 32768) (d' : Fin 16), scatter_S16x4096x16_S32768x2_S32768x16_1_01_01_1.resultIdx? (ix2 t d')
      (concatenate S32768x2 1 [⟨S32768x1, (broadcastInDim S32768x1 ![0] bcast_S32768_S32768x1_0 (select (cmpi .slt (V (Proc.devRef .tc main_arg1)) (broadcastInDim S32768 ![] bcast_S_S32768 (constantI S_ 32 0#32))) (addi (V (Proc.devRef .tc main_arg1)) (broadcastInDim S32768 ![] bcast_S_S32768 (constantI S_ 32 16#32))) (V (Proc.devRef .tc main_arg1))))⟩, ⟨S32768x1, (broadcastInDim S32768x1 ![0] bcast_S32768_S32768x1_0 (select (cmpi .slt (res_main_v31 V) (broadcastInDim S32768 ![] bcast_S_S32768 (constantI S_ 32 0#32))) (addi (res_main_v31 V) (broadcastInDim S32768 ![] bcast_S_S32768 (constantI S_ 32 4096#32))) (res_main_v31 V)))⟩] concatenates_S32768x1_S32768x1_S32768x2_d1)
        = some (ix3 b n d) ↔ t.val = nBelow (idNat V) b.val + n.val ∧ n.val < nAt (idNat V) b.val ∧ d' = d := fun t d' => by
    have ht := t.isLt
    have hlt := hs.lt16 t
    have hb := hs.eq_iff t b.val
    have hi := hs.eq_iff t (idNat V t)
    rw [row_lands, (pair_at _ _ t).1, (pair_at _ _ t).2, (col_at _ t).trans (wrapped_id hs t), (col_at _ t).trans (w31 t),
      StableHlo.Predicate.toInt_ofNat_small _ (lt_trans hlt (by decide)), StableHlo.Predicate.toInt_ofNat_small _ (by omega)]
    constructor
    · rintro ⟨h0, h1, h2⟩
      have h0' : idNat V t = b.val := Int.ofNat_inj.mp h0
      have h1' : t.val - nBelow (idNat V) (idNat V t) = n.val := Int.ofNat_inj.mp h1
      rw [h0'] at h1'
      have := hb.mp h0'
      exact ⟨by omega, by omega, h2⟩
    · rintro ⟨h0, h1, h2⟩
      have h0' : idNat V t = b.val := hb.mpr ⟨by omega, by omega⟩
      refine ⟨Int.ofNat_inj.mpr h0', Int.ofNat_inj.mpr ?_, h2⟩
      rw [h0']
      omega
  unfold res_main_v46
  split
  · next h =>
    refine scatter_set_hit _ _ _ _ _ _ (fun k hk => ?_) (ix2 ⟨nBelow (idNat V) b.val + n.val, by
            have := nBelow_add_nAt (idNat V) b.val
            have := nBelow_le (idNat V) (b.val + 1)
            omega⟩ d) ((lands _ d).mpr ⟨rfl, h, rfl⟩)
    rw [eq_ix2 k] at hk ⊢
    obtain ⟨h0, _, h2⟩ := (lands (k 0) (k 1)).mp hk
    have h0' : k 0 = ⟨nBelow (idNat V) b.val + n.val, h0 ▸ (k 0).isLt⟩ := Fin.ext h0
    rw [h0', h2]
    rfl
  · next h =>
    refine (scatter_set_miss _ _ _ _ _ fun k hk => ?_).trans (Ideal.ofBits_zero .f32)
    rw [eq_ix2 k] at hk
    exact h ((lands (k 0) (k 1)).mp hk).2.1

end Cert.ReferenceIdeal.Hand
-- ==== Proof.RefVal.lean ====
/- The reference's results, entry by entry. -/
module

public import proofs.«01_k».proof.Proof.RefIds

@[expose] public section

set_option maxRecDepth 16384

noncomputable section

namespace Cert.ReferenceIdeal.Hand

open Idealize.ShloMosaic Cert.ReferenceIdeal Cert.ReferenceIdeal.Gen Cert.ReferenceIdeal.Value Cert.Shared

variable {V : Valuation τ sig (Elt Ideal)}

/-- The rows of group `b` as the reference's arguments give them. -/
abbrev rowV (V : Valuation τ sig (Elt Ideal)) (b : ℕ) : ℕ → Fin 16 → EReal :=
  rowOf (idNat V) (feat (V (Proc.devRef .tc main_arg0)) (V (Proc.devRef .tc main_arg2)) (V (Proc.devRef .tc main_arg3)) (V (Proc.devRef .tc main_arg4)) (V (Proc.devRef .tc main_arg5))) b

/-- The second result is the groups' rows. -/
theorem out1_at (hs : Sorted (idNat V)) (b : Fin 16) (n : Fin 4096) (d : Fin 16) :
    (res_main_v46 V (ix3 b n d) : EReal) = rowV V b.val n.val d := by
  refine (v46_at hs b n d).trans ?_
  unfold rowV rowOf ext
  have h1 := nBelow_add_nAt (idNat V) b.val
  have h2 := nBelow_le (idNat V) (b.val + 1)
  by_cases h : n.val < nAt (idNat V) b.val
  · rw [dif_pos h, if_pos h, dif_pos (by omega)]
    exact mlpR_at _ _ _ _ _ _ d
  · rw [dif_neg h, if_neg h]

/-- The mask: 1 on a group's entries. -/
theorem v53_at (hs : Sorted (idNat V)) (b : Fin 16) (n : Fin 4096) :
    (res_main_v53 V (ix2 b n) : EReal) = (if n.val < nAt (idNat V) b.val then 1 else 0 : EReal) := by
  have e : (res_main_v53 V (ix2 b n) : EReal)
      = FloatOps.uitofp (F := Ideal) .f32 (IntOp.cmpi .slt (BitVec.ofNat 32 n.val) (res_main_v18 V (ix1 b))) := by
    unfold res_main_v53
    pointwise
  have h := hs.nAt_le b.val
  have hn := n.isLt
  rw [e, v18_at hs, uitofp_bit]
  refine if_congr ?_ rfl rfl
  rw [IntOp.cmpi_slt, StableHlo.Predicate.toInt_ofNat_small _ (by omega), StableHlo.Predicate.toInt_ofNat_small _ (by omega)]
  exact Int.ofNat_lt

/-- The rows less their mean. -/
theorem v69_at (hs : Sorted (idNat V)) (b : Fin 16) (n : Fin 4096) (d : Fin 16) :
    (res_main_v69 V (ix3 b n d) : EReal) = cenOf (rowV V b.val) (nAt (idNat V) b.val) n.val d := by
  have e : ∀ (v46 : FVec Ideal S16x4096x16 .f32) (v53 : FVec Ideal S16x4096 .f32) (v18 : IVec S16 32),
      (mulf (subf v46 (broadcastInDim S16x4096x16 ![0, 1, 2] bcast_S16x1x16_S16x4096x16_0_1_2 (Host.divf (broadcastInDim S16x1x16 ![0, 2] bcast_S16x16_S16x1x16_0_2 (Host.reduceAdd (mulf v46 (broadcastInDim S16x4096x16 ![0, 1, 2] bcast_S16x4096x1_S16x4096x16_0_1_2 (broadcastInDim S16x4096x1 ![0, 1] bcast_S16x4096_S16x4096x1_0_1 v53))) (constant S_ .f32 0x00000000#32) reducesTo_S16x4096x16_S16x16_d1 h_S_)) (broadcastInDim S16x1x16 ![0, 1, 2] bcast_S16x1x1_S16x1x16_0_1_2 (broadcastInDim S16x1x1 ![0] bcast_S16_S16x1x1_0 (maximumf (sitofp .f32 v18) (broadcastInDim S16 ![] bcast_S_S16 (constant S_ .f32 0x3F800000#32)))))))) (broadcastInDim S16x4096x16 ![0, 1, 2] bcast_S16x4096x1_S16x4096x16_0_1_2 (broadcastInDim S16x4096x1 ![0, 1] bcast_S16x4096_S16x4096x1_0_1 v53)) (ix3 b n d) : EReal)
      = (v46 (ix3 b n d) - Ideal.div (∑ x, v46 (ix3 b x d) * v53 (ix2 b x)) (max (FloatOps.sitofp (F := Ideal) .f32 (v18 (ix1 b))) 1)) * v53 (ix2 b n) := by
    intro v46 v53 v18
    pointwise
  unfold res_main_v69
  refine (e _ _ _).trans ?_
  rw [v18_at hs, v53_at hs]
  simp only [out1_at hs, v53_at hs, mul_ite, mul_one, mul_zero]
  rfl

/-- The covariances. -/
theorem v79_at (hs : Sorted (idNat V)) (b : Fin 16) (n : Fin 256) :
    (res_main_v79 V (ix2 b n) : EReal) = covOf (rowV V b.val) (nAt (idNat V) b.val) ⟨n.val / 16, by omega⟩ ⟨n.val % 16, by omega⟩ := by
  have e : ∀ (v69 : FVec Ideal S16x4096x16 .f32) (v18 : IVec S16 32),
      (shapeCast S16x256 (Host.divf (Host.dotGeneral dot_S16x4096x16_S16x4096x16_S16x16x16_1_1_2_2_0_0 none v69 v69) (broadcastInDim S16x16x16 ![0, 1, 2] bcast_S16x1x1_S16x16x16_0_1_2 (broadcastInDim S16x1x1 ![0] bcast_S16_S16x1x1_0 (maximumf (subf (sitofp .f32 v18) (broadcastInDim S16 ![] bcast_S_S16 (constant S_ .f32 0x3F800000#32))) (broadcastInDim S16 ![] bcast_S_S16 (constant S_ .f32 0x3F800000#32)))))) shapeCasts_S16x16x16_S16x256 (ix2 b n) : EReal)
      = Ideal.div (∑ x, v69 (ix3 b x ⟨n.val / 16, by omega⟩) * v69 (ix3 b x ⟨n.val % 16, by omega⟩))
          (max (FloatOps.sitofp (F := Ideal) .f32 (v18 (ix1 b)) - 1) 1) := by
    intro v69 v18
    pointwise
  unfold res_main_v79
  refine (e _ _).trans ?_
  rw [v18_at hs]
  simp only [v69_at hs]
  rfl

/-- Their signed square roots. -/
theorem v85_at (hs : Sorted (idNat V)) (b : Fin 16) (n : Fin 256) :
    (res_main_v85 V (ix2 b n) : EReal) = powOf (covOf (rowV V b.val) (nAt (idNat V) b.val) ⟨n.val / 16, by omega⟩ ⟨n.val % 16, by omega⟩) := by
  have e : ∀ v79 : FVec Ideal S16x256 .f32,
      (mulf (Host.sign v79) (Host.sqrt (addf (Host.absf v79) (broadcastInDim S16x256 ![] bcast_S_S16x256 (constant S_ .f32 0x2B8CBCCC#32)))) (ix2 b n) : EReal)
      = powOf (v79 (ix2 b n)) := by
    intro v79
    unfold powOf
    pointwise
  unfold res_main_v85
  refine (e _).trans ?_
  rw [v79_at hs]

/-- The first result is the pooled entries of the groups. -/
theorem out0_at (hs : Sorted (idNat V)) (b : Fin 16) (n : Fin 256) :
    (Host.divf (res_main_v85 V : FVec Ideal S16x256 .f32) (broadcastInDim S16x256 ![0, 1] bcast_S16x1_S16x256_0_1 (maximumf (Host.sqrt (broadcastInDim S16x1 ![0] bcast_S16_S16x1_0 (Host.reduceAdd (mulf (res_main_v85 V) (res_main_v85 V)) (constant S_ .f32 0x00000000#32) reducesTo_S16x256_S16_d1 h_S_))) (broadcastInDim S16x1 ![] bcast_S_S16x1 (constant S_ .f32 0x2B8CBCCC#32)))) (ix2 b n) : EReal)
      = outOf (rowV V b.val) (nAt (idNat V) b.val) ⟨n.val / 16, by omega⟩ ⟨n.val % 16, by omega⟩ := by
  have e : ∀ v : FVec Ideal S16x256 .f32,
      (Host.divf v (broadcastInDim S16x256 ![0, 1] bcast_S16x1_S16x256_0_1 (maximumf (Host.sqrt (broadcastInDim S16x1 ![0] bcast_S16_S16x1_0 (Host.reduceAdd (mulf v v) (constant S_ .f32 0x00000000#32) reducesTo_S16x256_S16_d1 h_S_))) (broadcastInDim S16x1 ![] bcast_S_S16x1 (constant S_ .f32 0x2B8CBCCC#32)))) (ix2 b n) : EReal)
      = Ideal.div (v (ix2 b n)) (max (Ideal.sqrt (∑ x, v (ix2 b x) * v (ix2 b x))) (Ideal.ofBits .f32 0x2B8CBCCC#32)) := by
    intro v
    pointwise
  refine (e _).trans ?_
  simp only [v85_at hs]
  rw [sum_256 fun x y => powOf (covOf (rowV V b.val) (nAt (idNat V) b.val) x y) * powOf (covOf (rowV V b.val) (nAt (idNat V) b.val) x y)]
  rfl

end Cert.ReferenceIdeal.Hand
-- ==== Proof.ValG.lean ====
/- One group's two results in the kernel, entry by entry. -/
module

public import proofs.«01_k».proof.Proof.DefsI
public import proofs.«01_k».proof.Proof.Spec
public import Idealize.ShloMosaic.Lib.Pointwise
public import Idealize.ShloMosaic.Lib.Affine
public import Idealize.ShloMosaic.Lib.StableHlo.Predicate

@[expose] public section

set_option maxRecDepth 16384

noncomputable section

namespace Cert.KernelIdeal.Hand

open Idealize.ShloMosaic Cert.KernelIdeal Cert.KernelIdeal.Gen Cert.Shared

/-- The mask: 1 on the `c` columns from `ph` on. -/
theorem pay20_at (ph c : ℕ) (hp : ph < 128) (hc : c ≤ 4096) (j : Fin 4224) :
    (k0_pay20 (F := Ideal) (BitVec.ofNat 32 ph) (BitVec.ofNat 32 c) (ix2 0 j) : EReal) = if ph ≤ j.val ∧ j.val < ph + c then 1 else 0 := by
  have e : (k0_pay20 (F := Ideal) (BitVec.ofNat 32 ph) (BitVec.ofNat 32 c) (ix2 0 j) : EReal)
      = FloatOps.sitofp (F := Ideal) .f32 (BitVec.setWidth 32 (IntOp.andi (IntOp.cmpi .sge (BitVec.ofNat 32 j.val) (BitVec.ofNat 32 ph))
          (IntOp.cmpi .slt (BitVec.ofNat 32 j.val) (Scalar.addi (BitVec.ofNat 32 ph) (BitVec.ofNat 32 c))))) := by
    unfold k0_pay20
    pointwise
  have hj := j.isLt
  have ha : Scalar.addi (BitVec.ofNat 32 ph) (BitVec.ofNat 32 c) = BitVec.ofNat 32 (ph + c) := by
    show BitVec.ofNat 32 ph + BitVec.ofNat 32 c = _
    rw [BitVec.ofNat_add]
  rw [e, ha, sitofp_bit]
  refine if_congr ?_ rfl rfl
  rw [IntOp.andi_eq_one, IntOp.cmpi_slt, IntOp.cmpi_sge, StableHlo.Predicate.toInt_ofNat_small _ (by omega),
    StableHlo.Predicate.toInt_ofNat_small _ (by omega), StableHlo.Predicate.toInt_ofNat_small _ (by omega)]
  exact and_congr Int.ofNat_le Int.ofNat_lt

section group

variable {ph c : ℕ} (hp : ph < 128) (hc : c ≤ 4096) {w : FVec Ideal S16x4224 .f32} {R : ℕ → Fin 16 → EReal}
  (hw : ∀ (d : Fin 16) (j : Fin 4224), ph ≤ j.val → j.val < ph + c → (w (ix2 d j) : EReal) = R (j.val - ph) d)

include hp hc hw

/-- The masked window: the group's rows, shifted by `ph`, and 0 around them. -/
theorem pay21_at (d : Fin 16) (j : Fin 4224) :
    (k0_pay21 (F := Ideal) (BitVec.ofNat 32 ph) (BitVec.ofNat 32 c) w (ix2 d j) : EReal) = if ph ≤ j.val ∧ j.val < ph + c then R (j.val - ph) d else 0 := by
  have e : (k0_pay21 (F := Ideal) (BitVec.ofNat 32 ph) (BitVec.ofNat 32 c) w (ix2 d j) : EReal)
      = w (ix2 d j) * k0_pay20 (F := Ideal) (BitVec.ofNat 32 ph) (BitVec.ofNat 32 c) (ix2 0 j) := by
    unfold k0_pay21
    generalize (k0_pay20 (F := Ideal) (BitVec.ofNat 32 ph) (BitVec.ofNat 32 c)) = m
    pointwise
  rw [e, pay20_at ph c hp hc]
  by_cases h : ph ≤ j.val ∧ j.val < ph + c
  · rw [if_pos h, if_pos h, mul_one, hw d j h.1 h.2]
  · rw [if_neg h, if_neg h, mul_zero]

/-- The group's slab of the second result: its rows, 0 past the last. -/
theorem grpLf_at (d : Fin 16) (n : Fin 4096) :
    (grpLf (F := Ideal) (BitVec.ofNat 32 ph) (BitVec.ofNat 32 c) w (ix3 0 d n) : EReal) = if n.val < c then R n.val d else 0 := by
  have e : (k0_pay22 (F := Ideal) (BitVec.ofNat 32 ph) (BitVec.ofNat 32 c) w (ix3 0 d n) : EReal)
      = k0_pay21 (F := Ideal) (BitVec.ofNat 32 ph) (BitVec.ofNat 32 c) w
          (ix2 d ⟨(n.val + 4224 - (Scalar.subi 4224#32 (BitVec.ofNat 32 ph)).toNat % 4224) % 4224, Nat.mod_lt _ (by decide)⟩) := by
    unfold k0_pay22
    generalize (k0_pay21 (F := Ideal) (BitVec.ofNat 32 ph) (BitVec.ofNat 32 c) w) = m
    pointwise
  have hn := n.isLt
  have hs : (Scalar.subi 4224#32 (BitVec.ofNat 32 ph)).toNat = 4224 - ph := by
    show (4224#32 - BitVec.ofNat 32 ph).toNat = _
    rw [BitVec.toNat_sub, BitVec.toNat_ofNat, BitVec.toNat_ofNat]
    omega
  have hi : (n.val + 4224 - (Scalar.subi 4224#32 (BitVec.ofNat 32 ph)).toNat % 4224) % 4224 = ph + n.val := by
    rw [hs]
    omega
  unfold grpLf
  rw [e, pay21_at hp hc hw]
  simp only [hi, Nat.add_sub_cancel_left]
  exact if_congr (by omega) rfl rfl

/-- The group's scatter matrix. -/
theorem pay24_at (d e : Fin 16) :
    (k0_pay24 (F := Ideal) (BitVec.ofNat 32 ph) (BitVec.ofNat 32 c) w (ix2 d e) : EReal) = ∑ n : Fin 4096, cenOf R c n.val d * cenOf R c n.val e := by
  have q : (k0_pay24 (F := Ideal) (BitVec.ofNat 32 ph) (BitVec.ofNat 32 c) w (ix2 d e) : EReal)
      = ∑ x : Fin 4224, (w (ix2 d x) - Ideal.div (∑ x, k0_pay21 (F := Ideal) (BitVec.ofNat 32 ph) (BitVec.ofNat 32 c) w (ix2 d x)) (max (cntE c) 1))
            * k0_pay20 (F := Ideal) (BitVec.ofNat 32 ph) (BitVec.ofNat 32 c) (ix2 0 x)
          * ((w (ix2 e x) - Ideal.div (∑ x, k0_pay21 (F := Ideal) (BitVec.ofNat 32 ph) (BitVec.ofNat 32 c) w (ix2 e x)) (max (cntE c) 1))
            * k0_pay20 (F := Ideal) (BitVec.ofNat 32 ph) (BitVec.ofNat 32 c) (ix2 0 x)) := by
    unfold k0_pay24
    have hk : k0_pay23 (F := Ideal) (BitVec.ofNat 32 c) = cntE c := rfl
    rw [hk]
    generalize cntE c = cc
    generalize (k0_pay21 (F := Ideal) (BitVec.ofNat 32 ph) (BitVec.ofNat 32 c) w) = m
    generalize (k0_pay20 (F := Ideal) (BitVec.ofNat 32 ph) (BitVec.ofNat 32 c)) = m0
    pointwise
  have hm : ∀ d, Ideal.div (∑ x : Fin 4224, (k0_pay21 (F := Ideal) (BitVec.ofNat 32 ph) (BitVec.ofNat 32 c) w (ix2 d x) : EReal)) (max (cntE c) 1) = meanOf R c d := fun d => by
    unfold meanOf
    rw [← sum_shift (fun n => R n d) ph c (by omega) hc]
    exact congrArg (Ideal.div · _) (Finset.sum_congr rfl fun x _ => pay21_at hp hc hw d x)
  rw [q, hm, hm]
  have hz : ∀ n : ℕ, cenOf R c n d * cenOf R c n e = if n < c then (R n d - meanOf R c d) * (R n e - meanOf R c e) else 0 := fun n => by
    unfold cenOf
    by_cases h : n < c
    · simp only [if_pos h]
    · simp only [if_neg h, mul_zero]
  simp only [hz]
  rw [← sum_shift (fun n => (R n d - meanOf R c d) * (R n e - meanOf R c e)) ph c (by omega) hc]
  refine Finset.sum_congr rfl fun x _ => ?_
  rw [pay20_at ph c hp hc]
  by_cases h : ph ≤ x.val ∧ x.val < ph + c
  · simp only [if_pos h, mul_one, hw _ x h.1 h.2]
  · simp only [if_neg h, mul_zero]

/-- The group's slab of the first result. -/
theorem grpOut_at (d e : Fin 16) :
    (grpOut (F := Ideal) (BitVec.ofNat 32 ph) (BitVec.ofNat 32 c) w (ix3 0 d e) : EReal) = outOf R c d e := by
  have q : ∀ (s : FVec Ideal S16x16 .f32) (a o : EReal), (k0_pay26 (F := Ideal) s a o (ix3 0 d e) : EReal)
      = Ideal.div (powOf (Ideal.div (s (ix2 d e)) (max a o)))
          (max (Ideal.sqrt (∑ x, ∑ y, powOf (Ideal.div (s (ix2 x y)) (max a o)) * powOf (Ideal.div (s (ix2 x y)) (max a o)))) (Ideal.ofBits .f32 0x2B8CBCCC#32)) := by
    intro s a o
    unfold k0_pay26
    pointwise
    simp only [sign_pick]
    rfl
  have h1 : Scalar.ofBits (F := Ideal) .f32 0x3F800000#32 = (1 : EReal) := IdealRules.sign_bit.ideal_onePat .f32
  have hk : k0_pay25 (F := Ideal) (BitVec.ofNat 32 c) = (cntE c - 1 : EReal) := by
    unfold k0_pay25
    rw [h1]
    rfl
  unfold grpOut
  rw [q]
  simp only [pay24_at hp hc hw, hk, h1]
  rfl

end group

end Cert.KernelIdeal.Hand
-- ==== Proof.ValT.lean ====
/- The kernel's tables under sorted ids: where each group starts and how many entries it has. -/
module

public import proofs.«01_k».proof.Proof.TabI
public import proofs.«01_k».proof.Proof.Pre
public import Idealize.ShloMosaic.Lib.StableHlo.Predicate

@[expose] public section

set_option maxRecDepth 16384

noncomputable section

namespace Cert.KernelIdeal.Hand

open Idealize.ShloMosaic Cert.KernelIdeal Cert.KernelIdeal.Gen Cert.Shared

variable {F : FTy → Type} [FloatOps F] {x1 : Vec F S256x128 .i32} {ids : IVec ⟨1, ![32768]⟩ 32}
  (hs : Sorted (idsOf ids)) (hx : ∀ t, idAt x1 t = ids (ix1 t))

include hs hx

/-- The ids at most `b` are the ids below `b + 1`. -/
theorem nLe_at (b : ℕ) (hb : b < 16) : nLe x1 (BitVec.ofNat 32 b) = nBelow (idsOf ids) (b + 1) := by
  unfold nLe nBelow
  refine congrArg Finset.card (Finset.ext fun t => ?_)
  rw [Finset.mem_filter, Finset.mem_filter]
  refine and_congr_right fun _ => ?_
  have h := hs.lt16 t
  have e : ids (ix1 t) = BitVec.ofNat 32 (idsOf ids t) := by
    unfold idsOf
    simp
  rw [hx, e, BitVec.sle_iff_toInt_le, StableHlo.Predicate.toInt_ofNat_small _ (by omega), StableHlo.Predicate.toInt_ofNat_small _ (by omega)]
  rw [Int.ofNat_le, Nat.lt_succ_iff]

/-- The start of group `b`. -/
theorem offW_at (b : ℕ) (hb : b ≤ 16) : offW x1 b = BitVec.ofNat 32 (nBelow (idsOf ids) b) := by
  cases b with
  | zero => rw [nBelow_zero]; rfl
  | succ b =>
    show leCount (BitVec.ofNat 32 b) x1 = _
    rw [leCount_eq, nLe_at hs hx b (by omega)]

/-- The size of group `b`. -/
theorem cntV_at (b : ℕ) (hb : b < 16) : cntV x1 b = BitVec.ofNat 32 (nAt (idsOf ids) b) := by
  have sub : ∀ p q : ℕ, p ≤ 32768 → q ≤ p → Scalar.subi (BitVec.ofNat 32 p) (BitVec.ofNat 32 q) = BitVec.ofNat 32 (p - q) := fun p q hp hq => by
    refine BitVec.eq_of_toNat_eq ?_
    show (BitVec.ofNat 32 p - BitVec.ofNat 32 q).toNat = _
    rw [BitVec.toNat_sub, BitVec.toNat_ofNat, BitVec.toNat_ofNat, BitVec.toNat_ofNat]
    omega
  have h1 := nBelow_le (idsOf ids) (b + 1)
  have h2 := nBelow_mono (idsOf ids) (Nat.le_succ b)
  by_cases h : b = 15
  · subst h
    show Scalar.subi 32768#32 (offW x1 15) = _
    rw [offW_at hs hx 15 (by omega)]
    have h16 : nBelow (idsOf ids) 16 = 32768 := hs.nBelow_16
    unfold nAt
    rw [h16]
    exact sub _ _ le_rfl (nBelow_le _ _)
  · have e : cntV x1 b = Scalar.subi (offW x1 (b + 1)) (offW x1 b) := by
      unfold cntV
      split
      · exact absurd rfl h
      · rfl
    rw [e, offW_at hs hx _ (by omega), offW_at hs hx b (by omega)]
    exact sub _ _ h1 h2

/-- The tables' entries: the quotient and the remainder of a group's start by 128, and its size. -/
theorem tables_at (b : Fin 16) :
    tabW x1 (ix2 0 b) = BitVec.ofNat 32 (nBelow (idsOf ids) b.val / 128) ∧ tabW x1 (ix2 1 b) = BitVec.ofNat 32 (nBelow (idsOf ids) b.val % 128)
      ∧ cntW x1 (ix2 0 b) = BitVec.ofNat 32 (nAt (idsOf ids) b.val) := by
  have ho := offW_at hs hx b.val (by omega)
  have hl := nBelow_le (idsOf ids) b.val
  have hn : (offW x1 b.val).toNat = nBelow (idsOf ids) b.val := by
    rw [ho, BitVec.toNat_ofNat]
    omega
  have hd := divmod_toNat (offW x1 b.val) (by omega)
  rw [hn] at hd
  refine ⟨BitVec.eq_of_toNat_eq ?_, BitVec.eq_of_toNat_eq ?_, cntV_at hs hx b.val b.isLt⟩
  · refine hd.1.trans ?_
    rw [BitVec.toNat_ofNat]
    omega
  · refine hd.2.trans ?_
    rw [BitVec.toNat_ofNat]
    omega

end Cert.KernelIdeal.Hand
-- ==== Proof.ValZ.lean ====
/- The blocks the kernel's grid reads, in terms of the arguments, and the scratch array of features. -/
module

public import proofs.«01_k».proof.Proof.RunI
public import proofs.«01_k».proof.Proof.Spec
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Cert.KernelIdeal Cert.KernelIdeal.Gen Cert.Shared

section reads

variable {F : FTy → Type} [FloatOps F] (m : (ℓ : Loc nD τ sig) → Buf (Elt F) ℓ) (c : Dev nD)

theorem idx0 : ∀ t, win0_0.index t = ![0, 0] ∧ win0_1.index t = ![0, 0] ∧ win0_2.index t = ![0, 0] ∧ win0_3.index t = ![0, 0]
    ∧ win0_4.index t = ![0, 0] ∧ win0_5.index t = ![0, 0] := by decide +kernel

/-- The id block's entry `(a, b)` is id `a * 128 + b`. -/
theorem in0_at (a : Fin 256) (b : Fin 128) : in0 m c (ix2 a b) = (m ((c.tc : Thread nD τ).loc main_arg1) : IVec S32768 32) (ix1 ⟨a.val * 128 + b.val, by omega⟩) := by
  have e : in0 m c (ix2 a b) = V m c main_v0 (ix2 a b) := by
    unfold in0
    blk_ext [iblk, idx0 t0_0]
  have v : V m c main_v0 = shapeCast S256x128 (m ((c.tc : Thread nD τ).loc main_arg1) : IVec S32768 32) shapeCasts_S32768_S256x128 := by
    unfold_abbrev_sides
    simp only [hostOps0, List.flatten_cons, List.flatten_nil, List.append_nil, List.cons_append, List.nil_append]
    after_results
    rfl
  rw [e, v]
  pointwise

/-- The inputs, transposed. -/
theorem in1_at (k : Fin 4) (t : Fin 32768) : in1 m c (ix2 k t) = (m ((c.tc : Thread nD τ).loc main_arg0) : FVec F S32768x4 .f32) (ix2 t k) := by
  have e : in1 m c (ix2 k t) = V m c main_v1 (ix2 k t) := by
    unfold in1
    blk_ext [iblk, idx0 t0_0]
  have v : V m c main_v1 = transpose S4x32768 [1, 0] (m ((c.tc : Thread nD τ).loc main_arg0) : FVec F S32768x4 .f32) transposes_S32768x4_S4x32768_1_0 := by
    unfold_abbrev_sides
    simp only [hostOps0, List.flatten_cons, List.flatten_nil, List.append_nil, List.cons_append, List.nil_append]
    after_results
  rw [e, v]
  pointwise

/-- The first layer's weights, transposed. -/
theorem in2_at (h : Fin 64) (k : Fin 4) : in2 m c (ix2 h k) = (m ((c.tc : Thread nD τ).loc main_arg2) : FVec F S4x64 .f32) (ix2 k h) := by
  have e : in2 m c (ix2 h k) = V m c main_v2 (ix2 h k) := by
    unfold in2
    blk_ext [iblk, idx0 t0_0]
  have v : V m c main_v2 = transpose S64x4 [1, 0] (m ((c.tc : Thread nD τ).loc main_arg2) : FVec F S4x64 .f32) transposes_S4x64_S64x4_1_0 := by
    unfold_abbrev_sides
    simp only [hostOps0, List.flatten_cons, List.flatten_nil, List.append_nil, List.cons_append, List.nil_append]
    after_results
  rw [e, v]
  pointwise

/-- The first layer's offsets, as a column. -/
theorem in3_at (h : Fin 64) : in3 m c (ix2 h 0) = (m ((c.tc : Thread nD τ).loc main_arg3) : FVec F S64 .f32) (ix1 h) := by
  have e : in3 m c (ix2 h 0) = V m c main_v3 (ix2 h 0) := by
    unfold in3
    blk_ext [iblk, idx0 t0_0]
  have v : V m c main_v3 = shapeCast S64x1 (m ((c.tc : Thread nD τ).loc main_arg3) : FVec F S64 .f32) shapeCasts_S64_S64x1 := by
    unfold_abbrev_sides
    simp only [hostOps0, List.flatten_cons, List.flatten_nil, List.append_nil, List.cons_append, List.nil_append]
    after_results
    rfl
  rw [e, v]
  pointwise

/-- The second layer's weights, transposed. -/
theorem in4_at (d : Fin 16) (h : Fin 64) : in4 m c (ix2 d h) = (m ((c.tc : Thread nD τ).loc main_arg4) : FVec F S64x16 .f32) (ix2 h d) := by
  have e : in4 m c (ix2 d h) = V m c main_v4 (ix2 d h) := by
    unfold in4
    blk_ext [iblk, idx0 t0_0]
  have v : V m c main_v4 = transpose S16x64 [1, 0] (m ((c.tc : Thread nD τ).loc main_arg4) : FVec F S64x16 .f32) transposes_S64x16_S16x64_1_0 := by
    unfold_abbrev_sides
    simp only [hostOps0, List.flatten_cons, List.flatten_nil, List.append_nil, List.cons_append, List.nil_append]
    after_results
  rw [e, v]
  pointwise

/-- The second layer's offsets, as a column. -/
theorem in5_at (d : Fin 16) : in5 m c (ix2 d 0) = (m ((c.tc : Thread nD τ).loc main_arg5) : FVec F S16 .f32) (ix1 d) := by
  have e : in5 m c (ix2 d 0) = V m c main_v5 (ix2 d 0) := by
    unfold in5
    blk_ext [iblk, idx0 t0_0]
  have v : V m c main_v5 = shapeCast S16x1 (m ((c.tc : Thread nD τ).loc main_arg5) : FVec F S16 .f32) shapeCasts_S16_S16x1 := by
    unfold_abbrev_sides
    simp only [hostOps0, List.flatten_cons, List.flatten_nil, List.append_nil, List.cons_append, List.nil_append]
    after_results
    rfl
  rw [e, v]
  pointwise

end reads

/-- The network as the kernel computes it: one feature of one entry. -/
theorem pay2_at (x2 : FVec Ideal S4x32768 .f32) (x3 : FVec Ideal S64x4 .f32) (x4 : FVec Ideal S64x1 .f32) (x5 : FVec Ideal S16x64 .f32) (x6 : FVec Ideal S16x1 .f32)
    (d : Fin 16) (t : Fin 32768) : (k0_pay2 (F := Ideal) x2 x3 x4 x5 x6 (ix2 d t) : EReal)
      = ∑ h, x5 (ix2 d h) * max (∑ k, x3 (ix2 h k) * x2 (ix2 k t) + x4 (ix2 h 0)) 0 + x6 (ix2 d 0) := by
  unfold k0_pay2
  pointwise

/-- The features of the kernel's arguments. -/
abbrev featM (m : (ℓ : Loc nD τ sig) → Buf (Elt Ideal) ℓ) (c : Dev nD) : Fin 32768 → Fin 16 → EReal :=
  feat (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))

/-- The scratch array holds the features, then zeros. -/
theorem zS_at (m : (ℓ : Loc nD τ sig) → Buf (Elt Ideal) ℓ) (c : Dev nD) (d : Fin 16) (j : Fin 36992) :
    (zS m c (ix2 d j) : EReal) = ext (featM m c) j.val d := by
  unfold zS zbuf ext
  by_cases h : j.val < 32768
  · refine (dif_pos h).trans ?_
    rw [dif_pos h]
    refine (pay2_at _ _ _ _ _ d ⟨j.val, h⟩).trans ?_
    unfold featM feat
    simp only [in1_at, in2_at, in3_at, in4_at, in5_at]
    refine congrArg (· + _) (Finset.sum_congr rfl fun q _ => ?_)
    rw [mul_comm]
    refine congrArg (fun z => max (z + _) 0 * _) (Finset.sum_congr rfl fun k _ => mul_comm _ _)
  · refine (dif_neg h).trans ?_
    rw [dif_neg h]
    exact Ideal.ofBits_zero .f32

/-- The kernel's ids, in order. -/
theorem ids_at (m : (ℓ : Loc nD τ sig) → Buf (Elt Ideal) ℓ) (c : Dev nD) (t : Fin 32768) :
    idAt (F := Ideal) (in0 m c) t = (m ((c.tc : Thread nD τ).loc main_arg1) : IVec S32768 32) (ix1 t) := by
  unfold idAt
  rw [in0_at]
  refine congrArg _ (congrArg ix1 (Fin.ext ?_))
  show t.val / 128 * 128 + t.val % 128 = t.val
  omega

end Cert.KernelIdeal.Hand
-- ==== Proof.ValA.lean ====
/- The kernel's two output arrays after the grid, entry by entry. -/
module

public import proofs.«01_k».proof.Proof.ValG
public import proofs.«01_k».proof.Proof.ValT
public import proofs.«01_k».proof.Proof.ValZ
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen Cert.Shared

variable (m : (ℓ : Loc nD τ sig) → Buf (Elt Ideal) ℓ) (c : Dev nD)

/-- The kernel's ids as numbers. -/
abbrev idM : Fin 32768 → ℕ := idsOf (m ((c.tc : Thread nD τ).loc main_arg1) : IVec S32768 32)

/-- The rows of group `b` as the kernel's arguments give them. -/
abbrev rowM (b : ℕ) : ℕ → Fin 16 → EReal := rowOf (idM m c) (featM m c) b

variable {m c} (hs : Sorted (idM m c))

include hs

/-- The window that group `b` reads holds the group's rows from its phase on. -/
theorem win_at (b : Fin 16) (d : Fin 16) (j : Fin 4224) (h1 : nBelow (idM m c) b.val % 128 ≤ j.val)
    (h2 : j.val < nBelow (idM m c) b.val % 128 + nAt (idM m c) b.val) :
    (winAt (F := Ideal) (zS m c) (tabW (F := Ideal) (in0 m c) (ix2 0 b)) (ix2 d j) : EReal) = rowM m c b.val (j.val - nBelow (idM m c) b.val % 128) d := by
  have hl := nBelow_le (idM m c) b.val
  have hj := j.isLt
  rw [(tables_at hs (ids_at m c) b).1]
  unfold winAt
  refine (zS_at m c d _).trans ?_
  have e : (BitVec.ofNat 32 (nBelow (idM m c) b.val / 128)).toNat = nBelow (idM m c) b.val / 128 := by
    rw [BitVec.toNat_ofNat]
    omega
  unfold rowM rowOf
  rw [if_pos (by omega)]
  refine congrArg (fun n => ext (featM m c) n d) ?_
  show min ((BitVec.ofNat 32 (nBelow (idM m c) b.val / 128)).toNat * 128 + j.val) 36991 = _
  rw [e]
  omega

/-- One entry of a block of the first output. -/
theorem outBlk_entry (i : grid0.Coords) (k : Fin 8) (d e : Fin 16) :
    (outBlk (F := Ideal) i (zS m c) (tabW (F := Ideal) (in0 m c)) (cntW (F := Ideal) (in0 m c)) (ix3 k d e) : EReal)
      = outOf (rowM m c (bIx i k.val).val) (nAt (idM m c) (bIx i k.val).val) d e := by
  have ht := tables_at hs (ids_at m c) (bIx i k.val)
  have hw := win_at hs (bIx i k.val)
  show (grpOut (F := Ideal) (tabW (F := Ideal) (in0 m c) (ix2 1 (bIx i k.val))) (cntW (F := Ideal) (in0 m c) (ix2 0 (bIx i k.val)))
    (winAt (F := Ideal) (zS m c) (tabW (F := Ideal) (in0 m c) (ix2 0 (bIx i k.val)))) (ix3 0 d e) : EReal) = _
  generalize winAt (F := Ideal) (zS m c) (tabW (F := Ideal) (in0 m c) (ix2 0 (bIx i k.val))) = w at hw ⊢
  rw [ht.2.1, ht.2.2]
  exact grpOut_at (Nat.mod_lt _ (by decide)) (hs.nAt_le _) hw d e

/-- One entry of a block of the second output. -/
theorem lfBlk_entry (i : grid0.Coords) (k : Fin 8) (d : Fin 16) (n : Fin 4096) :
    (lfBlk (F := Ideal) i (zS m c) (tabW (F := Ideal) (in0 m c)) (cntW (F := Ideal) (in0 m c)) (ix3 k d n) : EReal)
      = rowM m c (bIx i k.val).val n.val d := by
  have ht := tables_at hs (ids_at m c) (bIx i k.val)
  have hw := win_at hs (bIx i k.val)
  show (grpLf (F := Ideal) (tabW (F := Ideal) (in0 m c) (ix2 1 (bIx i k.val))) (cntW (F := Ideal) (in0 m c) (ix2 0 (bIx i k.val)))
    (winAt (F := Ideal) (zS m c) (tabW (F := Ideal) (in0 m c) (ix2 0 (bIx i k.val)))) (ix3 0 d n) : EReal) = _
  generalize winAt (F := Ideal) (zS m c) (tabW (F := Ideal) (in0 m c) (ix2 0 (bIx i k.val))) = w at hw ⊢
  rw [ht.2.1, ht.2.2]
  refine (grpLf_at (Nat.mod_lt _ (by decide)) (hs.nAt_le _) hw d n).trans ?_
  unfold rowM rowOf
  by_cases h : n.val < nAt (idM m c) (bIx i k.val).val
  · rw [if_pos h]
  · rw [if_neg h, if_neg h]

omit hs in
/-- The writing points' blocks are blocks 0 and 1. -/
theorem idx67 : ∀ t, ((win0 6).flush t = true → win0_6.index t = ![(grid0.coords t 0).val - 1, 0, 0] ∧ 1 ≤ (grid0.coords t 0).val ∧ (grid0.coords t 0).val ≤ 2)
    ∧ ((win0 7).flush t = true → win0_7.index t = ![(grid0.coords t 0).val - 1, 0, 0] ∧ 1 ≤ (grid0.coords t 0).val ∧ (grid0.coords t 0).val ≤ 2) := by decide +kernel

omit hs in
/-- The group of a writing point's `k`-th slab. -/
theorem bIx_val (i : grid0.Coords) (k : Fin 8) (h1 : 1 ≤ (i 0).val) (h2 : (i 0).val ≤ 2) : (bIx i k.val).val = ((i 0).val - 1) * 8 + k.val := by
  show (8 * ((i 0).val - 1) + k.val) % 16 = _
  omega

/-- The first output array: the pooled entries, one group after another. -/
theorem arr6 : ((dats m 0 c).arrAt 6 cfg0.N : S16x16x16.Idx → EReal)
    = fun i => outOf (rowM m c (i 0).val) (nAt (idM m c) (i 0).val) (i 1) (i 2) := by
  refine (dats m 0 c).arrAt_eq_of_covers 6 _ (by decide +kernel) fun t hf y => ?_
  have hi := (idx67 t).1 hf
  have e1 : (win0_6.blk t).view.emb y 1 = (y : S8x16x16.Idx) 1 := Fin.ext (by blk_simp [hi.1])
  have e2 : (win0_6.blk t).view.emb y 2 = (y : S8x16x16.Idx) 2 := Fin.ext (by blk_simp [hi.1])
  blk_simp [hi.1]
  rw [e1, e2]
  have h := outBlk_entry hs (grid0.coords t) ((y : S8x16x16.Idx) 0) ((y : S8x16x16.Idx) 1) ((y : S8x16x16.Idx) 2)
  refine Eq.trans ?_ (h.trans (congrArg (fun b => outOf (rowM m c b) (nAt (idM m c) b) ((y : S8x16x16.Idx) 1) ((y : S8x16x16.Idx) 2)) (bIx_val (grid0.coords t) ((y : S8x16x16.Idx) 0) hi.2.1 hi.2.2)))
  exact congrArg (outBlk (F := Ideal) (grid0.coords t) (zS m c) (tabW (F := Ideal) (in0 m c)) (cntW (F := Ideal) (in0 m c))) (eq_ix3 (y : S8x16x16.Idx))

/-- The second output array: the groups' rows, one group after another, transposed. -/
theorem arr7 : ((dats m 0 c).arrAt 7 cfg0.N : S16x16x4096.Idx → EReal) = fun i => rowM m c (i 0).val (i 2).val (i 1) := by
  refine (dats m 0 c).arrAt_eq_of_covers 7 _ (by decide +kernel) fun t hf y => ?_
  have hi := (idx67 t).2 hf
  have e1 : (win0_7.blk t).view.emb y 1 = (y : S8x16x4096.Idx) 1 := Fin.ext (by blk_simp [hi.1])
  blk_simp [hi.1]
  rw [e1]
  have h := lfBlk_entry hs (grid0.coords t) ((y : S8x16x4096.Idx) 0) ((y : S8x16x4096.Idx) 1) ((y : S8x16x4096.Idx) 2)
  refine Eq.trans ?_ (h.trans (congrArg (fun b => rowM m c b ((y : S8x16x4096.Idx) 2).val ((y : S8x16x4096.Idx) 1)) (bIx_val (grid0.coords t) ((y : S8x16x4096.Idx) 0) hi.2.1 hi.2.2)))
  exact congrArg (lfBlk (F := Ideal) (grid0.coords t) (zS m c) (tabW (F := Ideal) (in0 m c)) (cntW (F := Ideal) (in0 m c))) (eq_ix3 (y : S8x16x4096.Idx))

end Cert.KernelIdeal.Hand
-- ==== Proof.ValO.lean ====
/- The kernel's two results, entry by entry: the last host operations applied to the two output arrays. -/
module

public import proofs.«01_k».proof.Proof.ValA
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Shared

variable (m : (ℓ : Loc nD τ sig) → Buf (Elt Ideal) ℓ) (c : Dev nD)

/-- The pooled entries of all groups, one row per group. -/
def res0 : S16x256.Idx → EReal := fun i => outOf (rowM m c (i 0).val) (nAt (idM m c) (i 0).val)
  ⟨(i 1).val / 16, Nat.div_lt_of_lt_mul (i 1).isLt⟩ ⟨(i 1).val % 16, Nat.mod_lt _ (by norm_num)⟩

/-- The rows of all groups. -/
def res1 : S16x4096x16.Idx → EReal := fun i => rowM m c (i 0).val (i 1).val (i 2)

/-- Each window has its own array. -/
theorem arrRef_inj : Function.Injective (Pipeline.arrRef (cfgs 0).spec) := by
  have h : Function.Injective (Pipeline.arrRef spec0) := by decide
  exact h

/-- The host operations after the grid leave the first result as the first output array, reshaped. -/
theorem tail0 : Pipeline.afterTail₀ cfgs (dats m) 0 (V0 m) [hostOps1] c main_v7
    = shapeCast S16x256 ((dats m 0 c).arrAt 6 cfg0.N : FVec Ideal S16x16x16 .f32) shapeCasts_S16x16x16_S16x256 := by
  unfold Pipeline.afterTail₀
  simp only [hostOps1, List.flatten_cons, List.flatten_nil, List.append_nil, List.cons_append, List.nil_append]
  after_results
  exact congrArg (fun a : FVec Ideal S16x16x16 .f32 => shapeCast S16x256 a shapeCasts_S16x16x16_S16x256)
    (Pipeline.withArrays_arr (cfgs 0).spec arrRef_inj c (V0 m c) (fun w => (dats m 0 c).arrAt w (cfgs 0).N) 6)

/-- They leave the second result as the second output array with its last two axes exchanged. -/
theorem tail1 : Pipeline.afterTail₀ cfgs (dats m) 0 (V0 m) [hostOps1] c main_v8
    = transpose S16x4096x16 [0, 2, 1] ((dats m 0 c).arrAt 7 cfg0.N : FVec Ideal S16x16x4096 .f32)
        transposes_S16x16x4096_S16x4096x16_0_2_1 := by
  unfold Pipeline.afterTail₀
  simp only [hostOps1, List.flatten_cons, List.flatten_nil, List.append_nil, List.cons_append, List.nil_append]
  after_results
  exact congrArg (fun a : FVec Ideal S16x16x4096 .f32 => transpose S16x4096x16 [0, 2, 1] a transposes_S16x16x4096_S16x4096x16_0_2_1)
    (Pipeline.withArrays_arr (cfgs 0).spec arrRef_inj c (V0 m c) (fun w => (dats m 0 c).arrAt w (cfgs 0).N) 7)

variable {m c} (hs : Sorted (idM m c))

include hs

/-- The first result holds the pooled entries. -/
theorem val0 : Pipeline.afterTail₀ cfgs (dats m) 0 (V0 m) [hostOps1] c main_v7 = res0 m c := by
  rw [tail0, arr6 hs]
  funext (i : S16x256.Idx)
  rw [eq_ix2 i]
  generalize i 0 = b
  generalize i 1 = n
  unfold res0
  pointwise

/-- The second result holds the groups' rows. -/
theorem val1 : Pipeline.afterTail₀ cfgs (dats m) 0 (V0 m) [hostOps1] c main_v8 = res1 m c := by
  rw [tail1, arr7 hs]
  funext (i : S16x4096x16.Idx)
  rw [eq_ix3 i]
  generalize i 0 = b
  generalize i 1 = n
  generalize i 2 = d
  unfold res1
  pointwise

omit hs in
/-- From sorted ids, a finished run holds the two results and the arguments as launched. -/
theorem results (hs : ∀ c, Sorted (idM m c)) (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v7) = res0 m c ∧ r.2.mem ((c.tc : Thread nD τ).loc main_v8) = res1 m c :=
  ⟨((h c).2 main_v7 (Pipeline.mem_restRefs_of main_v7 (by decide) (by decide))).trans (val0 (hs c)),
    ((h c).2 main_v8 (Pipeline.mem_restRefs_of main_v8 (by decide) (by decide))).trans (val1 (hs c))⟩

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sorted_groups
public import proofs.«01_k».proof.Proof.RunK
public import proofs.«01_k».proof.Proof.RunI
public import proofs.«01_k».proof.Proof.Pre
public import proofs.«01_k».proof.Proof.RefVal
public import proofs.«01_k».proof.Proof.ValO
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, keeps its arguments and leaves every semaphore at zero, from any memory. -/
theorem quiescent_kernel : Cert.quiescent_Kernel := fun m ρ _ =>
  (θ_run Cert.Kernel.defs _ _).mono (fun r h => ⟨Cert.Kernel.Hand.args_kept m r h.1, h.2⟩) (Cert.Kernel.Hand.run_main m ρ)

/-- So does its ideal form. -/
theorem quiescent_ideal : Cert.quiescent_KernelIdeal := fun m ρ _ =>
  (θ_run Cert.KernelIdeal.defs _ _).mono (fun r h => ⟨Cert.KernelIdeal.Hand.args_kept m r h.1, h.2⟩) (Cert.KernelIdeal.Hand.run_main m ρ)

/-- So does the reference, which declares no semaphore. -/
theorem quiescent_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Value.run m ρ)

/-- The ideal form keeps the kernel's meaning: its one rewritten operation, the read of a sign bit. -/
theorem preserves : Cert.preserves_Kernel_KernelIdeal := IdealRules.sign_bit.statement Cert.KernelIdeal.S16x16 .f32

/-- From sorted ids the ideal kernel and the ideal reference leave the same two results: the pooled entries and the groups' rows. -/
theorem algebraic : Cert.algebraic_KernelIdeal_ReferenceIdeal_pre_sorted_groups := by
  intro m g m' g' hpre hargs
  have hs : ∀ c, Cert.Shared.Sorted (Cert.KernelIdeal.Hand.idM m c) := fun c => Cert.Shared.sorted_of_pre _ _ _ _ _ _ (hpre c)
  have hids : ∀ c, Cert.ReferenceIdeal.Hand.idNat (StableHlo.launchContents m' c) = Cert.KernelIdeal.Hand.idM m c := fun c =>
    congrArg (fun x : IVec Cert.KernelIdeal.S32768 32 => Cert.Shared.idsOf x) (hargs c).2.1
  have hfeat : ∀ c, Cert.Shared.feat (StableHlo.launchContents m' c (Proc.devRef .tc Cert.ReferenceIdeal.main_arg0))
      (StableHlo.launchContents m' c (Proc.devRef .tc Cert.ReferenceIdeal.main_arg2)) (StableHlo.launchContents m' c (Proc.devRef .tc Cert.ReferenceIdeal.main_arg3))
      (StableHlo.launchContents m' c (Proc.devRef .tc Cert.ReferenceIdeal.main_arg4)) (StableHlo.launchContents m' c (Proc.devRef .tc Cert.ReferenceIdeal.main_arg5))
      = Cert.KernelIdeal.Hand.featM m c := by
    intro c
    obtain ⟨h0, -, h2, h3, h4, h5⟩ := hargs c
    exact congr (congr (congr (congr (congrArg Cert.Shared.feat h0) h2) h3) h4) h5
  have hrow : ∀ c b, Cert.ReferenceIdeal.Hand.rowV (StableHlo.launchContents m' c) b = Cert.KernelIdeal.Hand.rowM m c b := fun c b =>
    congr (congr (congrArg Cert.Shared.rowOf (hids c)) (hfeat c)) rfl
  refine ⟨Cert.KernelIdeal.Hand.res0 m, Cert.KernelIdeal.Hand.res1 m, ?_, ?_⟩
  · exact (θ_run Cert.KernelIdeal.defs _ _).mono (fun r h c => ⟨(Cert.KernelIdeal.Hand.results hs r h.1 c).1,
      (Cert.KernelIdeal.Hand.results hs r h.1 c).2, Cert.KernelIdeal.Hand.args_kept m r h.1 c⟩) (Cert.KernelIdeal.Hand.run_main m g)
  · refine (θ_run Cert.ReferenceIdeal.defs _ _).mono (fun r h c => ⟨(h c).1.trans ?_, (h c).2.1.trans ?_, (h c).2.2⟩)
      (Cert.ReferenceIdeal.Value.run m' g')
    · funext (i : Cert.ReferenceIdeal.S16x256.Idx)
      rw [eq_ix2 i]
      refine (Cert.ReferenceIdeal.Hand.out0_at (by rw [hids]; exact hs c) (i 0) (i 1)).trans ?_
      rw [hrow, hids]
      rfl
    · funext (i : Cert.ReferenceIdeal.S16x4096x16.Idx)
      rw [eq_ix3 i]
      refine (Cert.ReferenceIdeal.Hand.out1_at (by rw [hids]; exact hs c) (i 0) (i 1) (i 2)).trans ?_
      rw [hrow]
      rfl

theorem claim : Cert.Claim := ⟨Cert.Kernel.Gen.facts, Cert.KernelIdeal.Gen.facts, Cert.ReferenceIdeal.Gen.facts,
  Cert.Pre_sorted_groups.Gen.facts, quiescent_kernel, quiescent_ideal, fun m ρ _ => quiescent_ideal m ρ trivial, quiescent_reference,
  fun m ρ _ => quiescent_reference m ρ trivial, preserves, algebraic⟩

end Cert.Proof

end
